-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_numbers [hPre_bf16_numbers : Cert.Pre_bf16_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_numbers [hPre_bf16_numbers : Cert.Pre_bf16_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bf16_numbers [hKernelIdeal : Cert.KernelIdeal.Facts] [hPre_bf16_numbers : Cert.Pre_bf16_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bf16_numbers [hReferenceIdeal : Cert.ReferenceIdeal.Facts] [hPre_bf16_numbers : Cert.Pre_bf16_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bf16_numbers [hKernelIdeal : Cert.KernelIdeal.Facts] [hReferenceIdeal : Cert.ReferenceIdeal.Facts] [hPre_bf16_numbers : Cert.Pre_bf16_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bf16_numbers : Cert.Pre_bf16_numbers.Facts),
    quiescent_Kernel (hKernel := hKernel)
    ∧ quiescent_KernelIdeal (hKernelIdeal := hKernelIdeal)
    ∧ quiescent_KernelIdeal_pre_bf16_numbers (hKernelIdeal := hKernelIdeal) (hPre_bf16_numbers := hPre_bf16_numbers)
    ∧ quiescent_ReferenceIdeal (hReferenceIdeal := hReferenceIdeal)
    ∧ quiescent_ReferenceIdeal_pre_bf16_numbers (hReferenceIdeal := hReferenceIdeal) (hPre_bf16_numbers := hPre_bf16_numbers)
    ∧ preserves_Kernel_KernelIdeal
    ∧ algebraic_KernelIdeal_ReferenceIdeal_pre_bf16_numbers (hKernelIdeal := hKernelIdeal) (hReferenceIdeal := hReferenceIdeal) (hPre_bf16_numbers := hPre_bf16_numbers)
-- ==== Pre_bf16_numbers.lean ====
abbrev S10x15360x2048 : Shape := ⟨3, ![10, 15360, 2048]⟩
abbrev S10x120x2048 : Shape := ⟨3, ![10, 120, 2048]⟩
abbrev S10x15360x2304 : Shape := ⟨3, ![10, 15360, 2304]⟩
abbrev S2048x2304 : Shape := ⟨2, ![2048, 2304]⟩
abbrev S_ : Shape := ⟨0, ![]⟩

class Facts : Prop where
  bcast_S_S10x15360x2304 : S_.BroadcastsInDim S10x15360x2304 (![] : Fin 0 → Fin S10x15360x2304.rank)

variable [Facts]

def fn {F : FTy → Type} [FloatOps F] (main_arg0 : FVec F S10x15360x2048 .fp8e4m3) (main_arg1 : FVec F S10x120x2048 .f32) (main_arg2 : FVec F S10x15360x2304 .bf16) (main_arg3 : FVec F S2048x2304 .f32) : IVec S10x15360x2304 1 :=
  let main_v0 : FVec F S10x15360x2304 .bf16 := Host.absf main_arg2
  let main_cst : FVec F S_ .bf16 := constant S_ .bf16 0x7F7F#16
  let main_v1 : FVec F S10x15360x2304 .bf16 := broadcastInDim S10x15360x2304 ![] bcast_S_S10x15360x2304 main_cst
  let main_v2 : IVec S10x15360x2304 1 := cmpf .ole main_v0 main_v1
  let main_cst_0 : FVec F S_ .bf16 := constant S_ .bf16 0x7F80#16
  let main_v3 : FVec F S10x15360x2304 .bf16 := broadcastInDim S10x15360x2304 ![] bcast_S_S10x15360x2304 main_cst_0
  let main_v4 : IVec S10x15360x2304 1 := cmpf .oeq main_v0 main_v3
  let main_v5 : IVec S10x15360x2304 1 := ori main_v2 main_v4
  main_v5
-- ==== Kernel.lean ====
abbrev S10x15360x2048 : Shape := ⟨3, ![10, 15360, 2048]⟩
abbrev S10x120x2048 : Shape := ⟨3, ![10, 120, 2048]⟩
abbrev S10x15360x2304 : Shape := ⟨3, ![10, 15360, 2304]⟩
abbrev S2048x2304 : Shape := ⟨2, ![2048, 2304]⟩
abbrev S153600x2048 : Shape := ⟨2, ![153600, 2048]⟩
abbrev S1200x2048 : Shape := ⟨2, ![1200, 2048]⟩
abbrev S153600x2304 : Shape := ⟨2, ![153600, 2304]⟩
abbrev S1200x2304 : Shape := ⟨2, ![1200, 2304]⟩
abbrev S1024x2048 : Shape := ⟨2, ![1024, 2048]⟩
abbrev S8x2048 : Shape := ⟨2, ![8, 2048]⟩
abbrev S1024x2304 : Shape := ⟨2, ![1024, 2304]⟩
abbrev S8x2304 : Shape := ⟨2, ![8, 2304]⟩
abbrev S2048x1024 : Shape := ⟨2, ![2048, 1024]⟩
abbrev S_ : Shape := ⟨0, ![]⟩
abbrev S128x2304 : Shape := ⟨2, ![128, 2304]⟩
abbrev S2304 : Shape := ⟨1, ![2304]⟩
abbrev S1x2304 : Shape := ⟨2, ![1, 2304]⟩
abbrev S255x2304 : Shape := ⟨2, ![255, 2304]⟩
abbrev S128x2048 : Shape := ⟨2, ![128, 2048]⟩
abbrev S1x2048 : Shape := ⟨2, ![1, 2048]⟩
abbrev S2048x128 : Shape := ⟨2, ![2048, 128]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 10
  | .vmem => 13
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x120x2048, .f32⟩
  | .hbm, ⟨2, _⟩ => ⟨S10x15360x2304, .bf16⟩
  | .hbm, ⟨3, _⟩ => ⟨S2048x2304, .f32⟩
  | .hbm, ⟨4, _⟩ => ⟨S153600x2048, .fp8e4m3⟩
  | .hbm, ⟨5, _⟩ => ⟨S1200x2048, .f32⟩
  | .hbm, ⟨6, _⟩ => ⟨S153600x2304, .bf16⟩
  | .hbm, ⟨7, _⟩ => ⟨S2048x2304, .f32⟩
  | .hbm, ⟨8, _⟩ => ⟨S153600x2304, .fp8e5m2⟩
  | .hbm, ⟨9, _⟩ => ⟨S1200x2304, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S8x2048, .f32⟩
  | .local _ .vmem, ⟨3, _⟩ => ⟨S8x2048, .f32⟩
  | .local _ .vmem, ⟨4, _⟩ => ⟨S1024x2304, .bf16⟩
  | .local _ .vmem, ⟨5, _⟩ => ⟨S1024x2304, .bf16⟩
  | .local _ .vmem, ⟨6, _⟩ => ⟨S1024x2304, .fp8e5m2⟩
  | .local _ .vmem, ⟨7, _⟩ => ⟨S1024x2304, .fp8e5m2⟩
  | .local _ .vmem, ⟨8, _⟩ => ⟨S8x2304, .f32⟩
  | .local _ .vmem, ⟨9, _⟩ => ⟨S8x2304, .f32⟩
  | .local _ .vmem, ⟨10, _⟩ => ⟨S2048x2304, .f32⟩
  | .local _ .vmem, ⟨11, _⟩ => ⟨S2048x1024, .bf16⟩
  | .local _ .vmem, ⟨12, _⟩ => ⟨S1024x2304, .bf16⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2304 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10x15360x2048 : Shape := ⟨3, ![10, 15360, 2048]⟩
abbrev S10x120x2048 : Shape := ⟨3, ![10, 120, 2048]⟩
abbrev S10x15360x2304 : Shape := ⟨3, ![10, 15360, 2304]⟩
abbrev S2048x2304 : Shape := ⟨2, ![2048, 2304]⟩
abbrev S1200x128x2048 : Shape := ⟨3, ![1200, 128, 2048]⟩
abbrev S1200x2048 : Shape := ⟨2, ![1200, 2048]⟩
abbrev S1200x128x2304 : Shape := ⟨3, ![1200, 128, 2304]⟩
abbrev S153600x2304 : Shape := ⟨2, ![153600, 2304]⟩
abbrev S1200x2304 : Shape := ⟨2, ![1200, 2304]⟩
abbrev S253x1200x2304 : Shape := ⟨3, ![253, 1200, 2304]⟩
abbrev S1x1200x2304 : Shape := ⟨3, ![1, 1200, 2304]⟩
abbrev S1200x1x2304 : Shape := ⟨3, ![1200, 1, 2304]⟩
abbrev S1200x1x2048 : Shape := ⟨3, ![1200, 1, 2048]⟩
abbrev S153600x2048 : Shape := ⟨2, ![153600, 2048]⟩

abbrev nBuf : Space → Nat
  | .hbm => 10
  | .vmem => 7
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x120x2048, .f32⟩
  | .hbm, ⟨2, _⟩ => ⟨S10x15360x2304, .bf16⟩
  | .hbm, ⟨3, _⟩ => ⟨S2048x2304, .f32⟩
  | .hbm, ⟨4, _⟩ => ⟨S1200x128x2048, .fp8e4m3⟩
  | .hbm, ⟨5, _⟩ => ⟨S1200x2048, .f32⟩
  | .hbm, ⟨6, _⟩ => ⟨S1200x128x2304, .bf16⟩
  | .hbm, ⟨7, _⟩ => ⟨S2048x2304, .f32⟩
  | .hbm, ⟨8, _⟩ => ⟨S153600x2304, .fp8e5m2⟩
  | .hbm, ⟨9, _⟩ => ⟨S1200x2304, .f32⟩
  | .local _ .vmem, ⟨0, _⟩ => ⟨S1200x128x2048, .fp8e4m3⟩
  | .local _ .vmem, ⟨1, _⟩ => ⟨S1200x2048, .f32⟩
  | .local _ .vmem, ⟨2, _⟩ => ⟨S1200x128x2304, .bf16⟩
  | .local _ .vmem, ⟨3, _⟩ => ⟨S2048x2304, .f32⟩
  | .local _ .vmem, ⟨4, _⟩ => ⟨S2048x2304, .f32⟩
  | .local _ .vmem, ⟨5, _⟩ => ⟨S153600x2304, .fp8e5m2⟩
  | .local _ .vmem, ⟨6, _⟩ => ⟨S1200x2304, .f32⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1200x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1200x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1200x128x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S153600x2304 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1200x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrameBits.lean ====
/- The frame of the kernel over its machine formats: the text of Gen/Kernel/Frame.lean up to the invariant, and the end of the
   run (`hout`) proved in another way. There the statement about the last point was compared by evaluating it, 150 points
   deep, which does not come to an end; here the proof that the point is in the grid is named (`last_lt`), so the two sides
   are the same text and nothing is evaluated. -/
module

public import proofs.«01_k».proof.Proof.Gen.Kernel.Frame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 3 tile its block (8 stores of `S128x2304`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S1024x2304.Idx) :
    ∃ pc ∈ (kernelRun0_A c i arg1 harg1 arg2 harg2 arg3 harg3 arg6 harg6 arg7 harg7 arg8 harg8 arg9 harg9 arg10 harg10 hc0 hc1 x0 x1 x2 fh0 fw1).1, y ∈ pc.1.set :=
  View.cover_of_tiledL (kernelRun0_A c i arg1 harg1 arg2 harg2 arg3 harg3 arg6 harg6 arg7 harg7 arg8 harg8 arg9 harg9 arg10 harg10 hc0 hc1 x0 x1 x2 fh0 fw1).1 S128x2304.size (by sl_kernel_rfl) y

/-- What case A leaves in output 3's staging buffer: its pieces read back over junk. -/
def out0_A_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S1024x2304 .fp8e5m2 :=
  VO0_3.read (Elt F) (VO0_3.writes (Elt F) VO0_3.junk (kernelRun0_A c i arg1 harg1 arg2 harg2 arg3 harg3 arg6 harg6 arg7 harg7 arg8 harg8 arg9 harg9 arg10 harg10 hc0 hc1 x0 x1 x2 fh0 fw1).1)

/-- Case A's pieces for output 4 tile its block (8 stores of `S1x2304`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S8x2304.Idx) :
    ∃ pc ∈ (kernelRun0_A c i arg1 harg1 arg2 harg2 arg3 harg3 arg6 harg6 arg7 harg7 arg8 harg8 arg9 harg9 arg10 harg10 hc0 hc1 x0 x1 x2 fh0 fw1).2.1, y ∈ pc.1.set :=
  View.cover_of_tiledL (kernelRun0_A c i arg1 harg1 arg2 harg2 arg3 harg3 arg6 harg6 arg7 harg7 arg8 harg8 arg9 harg9 arg10 harg10 hc0 hc1 x0 x1 x2 fh0 fw1).2.1 S1x2304.size (by sl_kernel_rfl) y

/-- What case A leaves in output 4's staging buffer: its pieces read back over junk. -/
def out0_A_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S8x2304 .f32 :=
  VO0_4.read (Elt F) (VO0_4.writes (Elt F) VO0_4.junk (kernelRun0_A c i arg1 harg1 arg2 harg2 arg3 harg3 arg6 harg6 arg7 harg7 arg8 harg8 arg9 harg9 arg10 harg10 hc0 hc1 x0 x1 x2 fh0 fw1).2.1)

/-- Case A's pieces for scratch `arg8`, which the kernel carries between points, cover it: one of them a store of the WHOLE buffer (Lib/Ring.lean `sl_whole_mem`). -/
theorem scover0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S2048x2304.Idx) :
    ∃ pc ∈ (kernelRun0_A c i arg1 harg1 arg2 harg2 arg3 harg3 arg6 harg6 arg7 harg7 arg8 harg8 arg9 harg9 arg10 harg10 hc0 hc1 x0 x1 x2 fh0 fw1).2.2.1, y ∈ pc.1.set :=
  View.cover_of_wholeMem (kernelRun0_A c i arg1 harg1 arg2 harg2 arg3 harg3 arg6 harg6 arg7 harg7 arg8 harg8 arg9 harg9 arg10 harg10 hc0 hc1 x0 x1 x2 fh0 fw1).2.2.1 (by sl_whole_mem) y

/-- What case A leaves in scratch `arg8`: its pieces read back over junk. -/
def sout0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S2048x2304 .f32 :=
  VS0_0.read (Elt F) (VS0_0.writes (Elt F) VS0_0.junk (kernelRun0_A c i arg1 harg1 arg2 harg2 arg3 harg3 arg6 harg6 arg7 harg7 arg8 harg8 arg9 harg9 arg10 harg10 hc0 hc1 x0 x1 x2 fh0 fw1).2.2.1)

/-- Case A copies nothing into `main_v3_0`: it holds the contents it started from (`fw1`), as the run
    hands them back. -/
def hbw0_A_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : HbBuf0 (F := F) c hbM0_1 := (kernelRun0_A c i arg1 harg1 arg2 harg2 arg3 harg3 arg6 harg6 arg7 harg7 arg8 harg8 arg9 harg9 arg10 harg10 hc0 hc1 x0 x1 x2 fh0 fw1).2.2.2.2.2.1

/-- Case B's pieces for output 3 tile its block (8 stores of `S128x2304`, checked by the kernel's evaluation: Lib/Ring.lean `Piece.tiledL`, linear in the pieces, through a loop's `@[irreducible]` trip theorem too), so they cover it. -/
theorem cover0_B_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S1024x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).1 S128x2304.size (by sl_kernel_rfl) y

/-- What case B leaves in output 3's staging buffer: its pieces read back over junk. -/
def out0_B_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S1024x2304 .fp8e5m2 :=
  VO0_3.read (Elt F) (VO0_3.writes (Elt F) VO0_3.junk (kernelRun0_B c i arg1 harg1 arg2 harg2 arg3 harg3 arg6 harg6 arg7 harg7 arg8 harg8 arg9 harg9 arg10 harg10 hc0 hc1 x0 x1 x2 xs0 fh0 fw1).1)

/-- Case B's pieces for output 4 tile its block (8 stores of `S1x2304`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S8x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).2.1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).2.1 S1x2304.size (by sl_kernel_rfl) y

/-- What case B leaves in output 4's staging buffer: its pieces read back over junk. -/
def out0_B_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S8x2304 .f32 :=
  VO0_4.read (Elt F) (VO0_4.writes (Elt F) VO0_4.junk (kernelRun0_B c i arg1 harg1 arg2 harg2 arg3 harg3 arg6 harg6 arg7 harg7 arg8 harg8 arg9 harg9 arg10 harg10 hc0 hc1 x0 x1 x2 xs0 fh0 fw1).2.1)

/-- Case B's pieces for scratch `arg8`, which the kernel carries between points, cover it: 36 pieces of `S512x256` tiling it (Lib/Ring.lean `Piece.tiledL`). -/
theorem scover0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S2048x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).2.2.1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).2.2.1 S512x256.size (by sl_kernel_rfl) y

/-- What case B leaves in scratch `arg8`: its pieces read back over junk. -/
def sout0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_B c i arg1 harg1 arg2 harg2 arg3 harg3 arg6 harg6 arg7 harg7 arg8 harg8 arg9 harg9 arg10 harg10 hc0 hc1 x0 x1 x2 xs0 fh0 fw1).2.2.1)

/-- Case B copies nothing into `main_v3_0`: it holds the contents it started from (`fw1`), as the run
    hands them back. -/
def hbw0_B_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : HbBuf0 (F := F) c hbM0_1 := (kernelRun0_B c i arg1 harg1 arg2 harg2 arg3 harg3 arg6 harg6 arg7 harg7 arg8 harg8 arg9 harg9 arg10 harg10 hc0 hc1 x0 x1 x2 xs0 fh0 fw1).2.2.2.2.2.1

/-- Case C's pieces for output 3 tile its block (8 stores of `S128x2304`, checked by the kernel's evaluation: Lib/Ring.lean `Piece.tiledL`, linear in the pieces, through a loop's `@[irreducible]` trip theorem too), so they cover it. -/
theorem cover0_C_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S1024x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).1 S128x2304.size (by sl_kernel_rfl) y

/-- What case C leaves in output 3's staging buffer: its pieces read back over junk. -/
def out0_C_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S1024x2304 .fp8e5m2 :=
  VO0_3.read (Elt F) (VO0_3.writes (Elt F) VO0_3.junk (kernelRun0_C c i arg1 harg1 arg2 harg2 arg3 harg3 arg6 harg6 arg7 harg7 arg8 harg8 arg9 harg9 arg10 harg10 hc0 hc1 x0 x1 x2 xs0 fh0 fw1).1)

/-- Case C's pieces for output 4 tile its block (8 stores of `S1x2304`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S8x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).2.1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).2.1 S1x2304.size (by sl_kernel_rfl) y

/-- What case C leaves in output 4's staging buffer: its pieces read back over junk. -/
def out0_C_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S8x2304 .f32 :=
  VO0_4.read (Elt F) (VO0_4.writes (Elt F) VO0_4.junk (kernelRun0_C c i arg1 harg1 arg2 harg2 arg3 harg3 arg6 harg6 arg7 harg7 arg8 harg8 arg9 harg9 arg10 harg10 hc0 hc1 x0 x1 x2 xs0 fh0 fw1).2.1)

/-- Case C's pieces for scratch `arg8`, which the kernel carries between points, cover it: 36 pieces of `S512x256` tiling it (Lib/Ring.lean `Piece.tiledL`). -/
theorem scover0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S2048x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).2.2.1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).2.2.1 S512x256.size (by sl_kernel_rfl) y

/-- What case C leaves in scratch `arg8`: its pieces read back over junk. -/
def sout0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_C c i arg1 harg1 arg2 harg2 arg3 harg3 arg6 harg6 arg7 harg7 arg8 harg8 arg9 harg9 arg10 harg10 hc0 hc1 x0 x1 x2 xs0 fh0 fw1).2.2.1)

/-- What case C leaves in `main_v3_0`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : HbBuf0 (F := F) c hbM0_1 := (kernelRun0_C c i arg1 harg1 arg2 harg2 arg3 harg3 arg6 harg6 arg7 harg7 arg8 harg8 arg9 harg9 arg10 harg10 hc0 hc1 x0 x1 x2 xs0 fh0 fw1).2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2304 .fp8e5m2 × Vec F S8x2304 .f32 × Vec F S2048x2304 .f32 × HbBuf0 (F := F) c hbM0_1
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0))
  | n + 1, hn =>
    if h0 : (n + 1) % 150 = 0 then
      if h1 : (n + 1) % 150 = 149 then
        False.elim (by have hN : n + 1 < 150 := lt_of_lt_of_eq hn (show cfg0.N = 150 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0))
    else
      if h1 : (n + 1) % 150 = 149 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2)

/-- `outsAt0` at a point of case A: that case's contents. -/
theorem outsAt0_A (c : Dev nD) (t : Fin cfg0.N) (h0 : t.val % 150 = 0) (h1 : ¬t.val % 150 = 149) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), hbw0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 150 = 0) (h1 : ¬t.val % 150 = 149) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, hbw0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 150 = 0) (h1 : t.val % 150 = 149) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, hbw0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c n hn).2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c (n - 1) (by omega)).2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 150 := lt_of_lt_of_eq t.isLt (show cfg0.N = 150 from N_0)
  by_cases h0 : t.val % 150 = 0
  · by_cases h1 : t.val % 150 = 149
    · exfalso; omega
    · by_cases hz : t.val = 0
      · rw [PhiS_castSucc m c t, PhiS_zero m c _ _ hz, PhiDRG0_in_eq]
        rw [outsAt0_A m c t h0 h1]
        unfold out0_A_3 out0_A_4 sout0_A_0 hbw0_A_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _)
        unfold owns; iexists _; isplitr
        swap; · iexact H4
        ipureintro; exact View.read_writes_of_cover _ _ _ _ _ (cover0_A_4 c _ _ _ _ _ _ _ _ _ _ _ _ _ _ _ _ _ _ _ _ _ _ _ _)
      · exfalso; have hN : t.val < 150 := lt_of_lt_of_eq t.isLt (show cfg0.N = 150 from N_0); omega
  · by_cases h1 : t.val % 150 = 149
    · by_cases hz : t.val = 0
      · exfalso; have hN : t.val < 150 := lt_of_lt_of_eq t.isLt (show cfg0.N = 150 from N_0); omega
      · rw [PhiS_castSucc m c t, PhiS_pos m c _ _ hz]
        rw [outsAt0_C m c t h0 h1]
        unfold out0_C_3 out0_C_4 sout0_C_0 hbw0_C_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · by_cases hz : t.val = 0
      · exfalso; have hN : t.val < 150 := lt_of_lt_of_eq t.isLt (show cfg0.N = 150 from N_0); omega
      · rw [PhiS_castSucc m c t, PhiS_pos m c _ _ hz]
        rw [outsAt0_B m c t h0 h1]
        unfold out0_B_3 out0_B_4 sout0_B_0 hbw0_B_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _)
        unfold owns; iexists _; isplitr
        swap; · iexact H4
        ipureintro; exact View.read_writes_of_cover _ _ _ _ _ (cover0_B_4 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- There is a last point: the grid has 150. -/
theorem last_pos : (Fin.last cfg0.N).val ≠ 0 := by rw [Fin.val_last]; have : cfg0.N = 150 := N_0; omega
/-- The last point is one of the grid. Named, so that every statement about it carries the same proof. -/
theorem last_lt : (Fin.last cfg0.N).val - 1 < cfg0.N := by rw [Fin.val_last]; have : cfg0.N = 150 := N_0; omega
/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v3_0 (outsAt0 m c ((Fin.last cfg0.N).val - 1) last_lt).2.2.2
/-- `hbG0` at `main_v3_0`: `outsAt0`'s component. -/
theorem hbG0_1 (c : Dev nD) : hbG0 m c main_v3_0 = (outsAt0 m c ((Fin.last cfg0.N).val - 1) last_lt).2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) last_lt).2.2.2)) := by
  unfold Pipeline.routed; rw [BI.bigSep_eq_bigSepL_of_eq [main_v3_0] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c ((Fin.last cfg0.N).val - 1) last_lt).2.2.2))) := by
  rw [Pipeline.ΦDRG_eq, scopedRest0_eq, ownSems00_eq, hbmPts0_eq, heldG0_eq]; simp only [scM0_0, scM0_1, scM0_2, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

section
attribute [local irreducible] outsAt0 PhiS
/-- The invariant after the last point, read off the proof data. -/
theorem Phi_last (c : Dev nD) : (dats m 0 c).Φ (Fin.last cfg0.N) = PhiS m c (Fin.last cfg0.N).val (Nat.le_of_lt_succ (Fin.last cfg0.N).isLt) := by dsimp only [dats]
/-- With the contents a point leaves as a variable `o`: the named invariant gives the launch's, the scratch's contents forgotten. -/
theorem hout_aux (c : Dev nD) (o : Vec F S1024x2304 .fp8e5m2 × Vec F S8x2304 .f32 × Vec F S2048x2304 .f32 × HbBuf0 (F := F) c hbM0_1) {A B : sProp 𝕄}
    (hA : A = iprop(iprop(owns (c : Thread nD τ) scM0_0 fullShare o.2.2.1 ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 o.2.2.2)))
    (hB : B = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 o.2.2.2))) :
    A ⊢ B := by
  rw [hA, hB]
  iintro ⟨⟨HS0, HS1, HS2⟩, Hg, Hq0, Hh0, Hh1⟩
  isplitl [HS0 HS1 HS2]
  · isplitl [HS0]
    · iexists _; iexact HS0
    isplitl [HS1]
    · iexact HS1
    iexact HS2
  isplitl [Hg]; · iexact Hg
  isplitl [Hq0]
  · iexact Hq0
  isplitl [Hh0]
  · iexact Hh0
  iexact Hh1

/-- `hout_aux` after any point but the first. -/
theorem hout_n (c : Dev nD) (n : ℕ) (h : n ≤ cfg0.N) (hz : n ≠ 0) (h' : n - 1 < cfg0.N) (B : sProp 𝕄)
    (hB : B = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c (n - 1) h').2.2.2)))) : PhiS m c n h ⊢ B :=
  hout_aux m c (outsAt0 m c (n - 1) h') (PhiS_pos m c n h hz) hB
/-- `hout_n` after the last point. -/
theorem hout_PhiS (c : Dev nD) : PhiS m c (Fin.last cfg0.N).val (Nat.le_of_lt_succ (Fin.last cfg0.N).isLt) ⊢ Pipeline.ΦDRG osem0 spec0 H0 R0 (V m) (hbG0 m) c :=
  hout_n m c (Fin.last cfg0.N).val (Nat.le_of_lt_succ (Fin.last cfg0.N).isLt) last_pos last_lt _ (PhiDRG0_out_eq m c)
/-- After the last point the invariant gives the launch's back, with each result the copies out write at what that point left. -/
theorem hout (c : Dev nD) : (dats m 0 c).Φ (Fin.last cfg0.N) ⊢ Pipeline.ΦDRG osem0 spec0 H0 R0 (V m) (hbG0 m) c := by
  rw [Phi_last]; exact hout_PhiS m c
end
/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.toR) (run_main m ρ))

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KernelFrame.lean ====
/- The frame of the kernel over the reals: the text of Gen/KernelIdeal/Frame.lean up to the invariant, and the end of the
   run (`hout`) proved in another way. There the statement about the last point was compared by evaluating it, 150 points
   deep, which does not come to an end; here the proof that the point is in the grid is named (`last_lt`), so the two sides
   are the same text and nothing is evaluated. -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 3 tile its block (8 stores of `S128x2304`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S1024x2304.Idx) :
    ∃ pc ∈ (kernelRun0_A c i arg1 harg1 arg2 harg2 arg3 harg3 arg6 harg6 arg7 harg7 arg8 harg8 arg9 harg9 arg10 harg10 hc0 hc1 x0 x1 x2 fh0 fw1).1, y ∈ pc.1.set :=
  View.cover_of_tiledL (kernelRun0_A c i arg1 harg1 arg2 harg2 arg3 harg3 arg6 harg6 arg7 harg7 arg8 harg8 arg9 harg9 arg10 harg10 hc0 hc1 x0 x1 x2 fh0 fw1).1 S128x2304.size (by sl_kernel_rfl) y

/-- What case A leaves in output 3's staging buffer: its pieces read back over junk. -/
def out0_A_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S1024x2304 .fp8e5m2 :=
  VO0_3.read (Elt F) (VO0_3.writes (Elt F) VO0_3.junk (kernelRun0_A c i arg1 harg1 arg2 harg2 arg3 harg3 arg6 harg6 arg7 harg7 arg8 harg8 arg9 harg9 arg10 harg10 hc0 hc1 x0 x1 x2 fh0 fw1).1)

/-- Case A's pieces for output 4 tile its block (8 stores of `S1x2304`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S8x2304.Idx) :
    ∃ pc ∈ (kernelRun0_A c i arg1 harg1 arg2 harg2 arg3 harg3 arg6 harg6 arg7 harg7 arg8 harg8 arg9 harg9 arg10 harg10 hc0 hc1 x0 x1 x2 fh0 fw1).2.1, y ∈ pc.1.set :=
  View.cover_of_tiledL (kernelRun0_A c i arg1 harg1 arg2 harg2 arg3 harg3 arg6 harg6 arg7 harg7 arg8 harg8 arg9 harg9 arg10 harg10 hc0 hc1 x0 x1 x2 fh0 fw1).2.1 S1x2304.size (by sl_kernel_rfl) y

/-- What case A leaves in output 4's staging buffer: its pieces read back over junk. -/
def out0_A_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S8x2304 .f32 :=
  VO0_4.read (Elt F) (VO0_4.writes (Elt F) VO0_4.junk (kernelRun0_A c i arg1 harg1 arg2 harg2 arg3 harg3 arg6 harg6 arg7 harg7 arg8 harg8 arg9 harg9 arg10 harg10 hc0 hc1 x0 x1 x2 fh0 fw1).2.1)

/-- Case A's pieces for scratch `arg8`, which the kernel carries between points, cover it: one of them a store of the WHOLE buffer (Lib/Ring.lean `sl_whole_mem`). -/
theorem scover0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) (y : S2048x2304.Idx) :
    ∃ pc ∈ (kernelRun0_A c i arg1 harg1 arg2 harg2 arg3 harg3 arg6 harg6 arg7 harg7 arg8 harg8 arg9 harg9 arg10 harg10 hc0 hc1 x0 x1 x2 fh0 fw1).2.2.1, y ∈ pc.1.set :=
  View.cover_of_wholeMem (kernelRun0_A c i arg1 harg1 arg2 harg2 arg3 harg3 arg6 harg6 arg7 harg7 arg8 harg8 arg9 harg9 arg10 harg10 hc0 hc1 x0 x1 x2 fh0 fw1).2.2.1 (by sl_whole_mem) y

/-- What case A leaves in scratch `arg8`: its pieces read back over junk. -/
def sout0_A_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : Vec F S2048x2304 .f32 :=
  VS0_0.read (Elt F) (VS0_0.writes (Elt F) VS0_0.junk (kernelRun0_A c i arg1 harg1 arg2 harg2 arg3 harg3 arg6 harg6 arg7 harg7 arg8 harg8 arg9 harg9 arg10 harg10 hc0 hc1 x0 x1 x2 fh0 fw1).2.2.1)

/-- Case A copies nothing into `main_v3_0`: it holds the contents it started from (`fw1`), as the run
    hands them back. -/
def hbw0_A_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec F S1024x2048 .fp8e4m3) (x1 : Vec F S8x2048 .f32) (x2 : Vec F S1024x2304 .bf16) (fh0 : HbBuf0 (F := F) c hbM0_0) (fw1 : HbBuf0 (F := F) c hbM0_1) : HbBuf0 (F := F) c hbM0_1 := (kernelRun0_A c i arg1 harg1 arg2 harg2 arg3 harg3 arg6 harg6 arg7 harg7 arg8 harg8 arg9 harg9 arg10 harg10 hc0 hc1 x0 x1 x2 fh0 fw1).2.2.2.2.2.1

/-- Case B's pieces for output 3 tile its block (8 stores of `S128x2304`, checked by the kernel's evaluation: Lib/Ring.lean `Piece.tiledL`, linear in the pieces, through a loop's `@[irreducible]` trip theorem too), so they cover it. -/
theorem cover0_B_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S1024x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).1 S128x2304.size (by sl_kernel_rfl) y

/-- What case B leaves in output 3's staging buffer: its pieces read back over junk. -/
def out0_B_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S1024x2304 .fp8e5m2 :=
  VO0_3.read (Elt F) (VO0_3.writes (Elt F) VO0_3.junk (kernelRun0_B c i arg1 harg1 arg2 harg2 arg3 harg3 arg6 harg6 arg7 harg7 arg8 harg8 arg9 harg9 arg10 harg10 hc0 hc1 x0 x1 x2 xs0 fh0 fw1).1)

/-- Case B's pieces for output 4 tile its block (8 stores of `S1x2304`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S8x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).2.1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).2.1 S1x2304.size (by sl_kernel_rfl) y

/-- What case B leaves in output 4's staging buffer: its pieces read back over junk. -/
def out0_B_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S8x2304 .f32 :=
  VO0_4.read (Elt F) (VO0_4.writes (Elt F) VO0_4.junk (kernelRun0_B c i arg1 harg1 arg2 harg2 arg3 harg3 arg6 harg6 arg7 harg7 arg8 harg8 arg9 harg9 arg10 harg10 hc0 hc1 x0 x1 x2 xs0 fh0 fw1).2.1)

/-- Case B's pieces for scratch `arg8`, which the kernel carries between points, cover it: 36 pieces of `S512x256` tiling it (Lib/Ring.lean `Piece.tiledL`). -/
theorem scover0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S2048x2304.Idx) :
    ∃ pc ∈ (kernelRun0_B c i arg1 harg1 arg2 harg2 arg3 harg3 arg6 harg6 arg7 harg7 arg8 harg8 arg9 harg9 arg10 harg10 hc0 hc1 x0 x1 x2 xs0 fh0 fw1).2.2.1, y ∈ pc.1.set :=
  View.cover_of_tiledL (kernelRun0_B c i arg1 harg1 arg2 harg2 arg3 harg3 arg6 harg6 arg7 harg7 arg8 harg8 arg9 harg9 arg10 harg10 hc0 hc1 x0 x1 x2 xs0 fh0 fw1).2.2.1 S512x256.size (by sl_kernel_rfl) y

/-- What case B leaves in scratch `arg8`: its pieces read back over junk. -/
def sout0_B_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_B c i arg1 harg1 arg2 harg2 arg3 harg3 arg6 harg6 arg7 harg7 arg8 harg8 arg9 harg9 arg10 harg10 hc0 hc1 x0 x1 x2 xs0 fh0 fw1).2.2.1)

/-- Case B copies nothing into `main_v3_0`: it holds the contents it started from (`fw1`), as the run
    hands them back. -/
def hbw0_B_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : HbBuf0 (F := F) c hbM0_1 := (kernelRun0_B c i arg1 harg1 arg2 harg2 arg3 harg3 arg6 harg6 arg7 harg7 arg8 harg8 arg9 harg9 arg10 harg10 hc0 hc1 x0 x1 x2 xs0 fh0 fw1).2.2.2.2.2.1

/-- Case C's pieces for output 3 tile its block (8 stores of `S128x2304`, checked by the kernel's evaluation: Lib/Ring.lean `Piece.tiledL`, linear in the pieces, through a loop's `@[irreducible]` trip theorem too), so they cover it. -/
theorem cover0_C_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S1024x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).1 S128x2304.size (by sl_kernel_rfl) y

/-- What case C leaves in output 3's staging buffer: its pieces read back over junk. -/
def out0_C_3 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S1024x2304 .fp8e5m2 :=
  VO0_3.read (Elt F) (VO0_3.writes (Elt F) VO0_3.junk (kernelRun0_C c i arg1 harg1 arg2 harg2 arg3 harg3 arg6 harg6 arg7 harg7 arg8 harg8 arg9 harg9 arg10 harg10 hc0 hc1 x0 x1 x2 xs0 fh0 fw1).1)

/-- Case C's pieces for output 4 tile its block (8 stores of `S1x2304`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S8x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).2.1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).2.1 S1x2304.size (by sl_kernel_rfl) y

/-- What case C leaves in output 4's staging buffer: its pieces read back over junk. -/
def out0_C_4 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S8x2304 .f32 :=
  VO0_4.read (Elt F) (VO0_4.writes (Elt F) VO0_4.junk (kernelRun0_C c i arg1 harg1 arg2 harg2 arg3 harg3 arg6 harg6 arg7 harg7 arg8 harg8 arg9 harg9 arg10 harg10 hc0 hc1 x0 x1 x2 xs0 fh0 fw1).2.1)

/-- Case C's pieces for scratch `arg8`, which the kernel carries between points, cover it: 36 pieces of `S512x256` tiling it (Lib/Ring.lean `Piece.tiledL`). -/
theorem scover0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) (y : S2048x2304.Idx) :
    ∃ pc ∈ (kernelRun0_C c i arg1 harg1 arg2 harg2 arg3 harg3 arg6 harg6 arg7 harg7 arg8 harg8 arg9 harg9 arg10 harg10 hc0 hc1 x0 x1 x2 xs0 fh0 fw1).2.2.1, y ∈ pc.1.set :=
  View.cover_of_tiledL (kernelRun0_C c i arg1 harg1 arg2 harg2 arg3 harg3 arg6 harg6 arg7 harg7 arg8 harg8 arg9 harg9 arg10 harg10 hc0 hc1 x0 x1 x2 xs0 fh0 fw1).2.2.1 S512x256.size (by sl_kernel_rfl) y

/-- What case C leaves in scratch `arg8`: its pieces read back over junk. -/
def sout0_C_0 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : Vec F S2048x2304 .f32 :=
  VS0_0.read (Elt F) (VS0_0.writes (Elt F) VS0_0.junk (kernelRun0_C c i arg1 harg1 arg2 harg2 arg3 harg3 arg6 harg6 arg7 harg7 arg8 harg8 arg9 harg9 arg10 harg10 hc0 hc1 x0 x1 x2 xs0 fh0 fw1).2.2.1)

/-- What case C leaves in `main_v3_0`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec F S1024x2048 .fp8e4m3) (x1 : Vec F S8x2048 .f32) (x2 : Vec F S1024x2304 .bf16) (xs0 : Vec F S2048x2304 .f32) (fh0 : HbBuf0 (F := F) c hbM0_0) (fw1 : HbBuf0 (F := F) c hbM0_1) : HbBuf0 (F := F) c hbM0_1 := (kernelRun0_C c i arg1 harg1 arg2 harg2 arg3 harg3 arg6 harg6 arg7 harg7 arg8 harg8 arg9 harg9 arg10 harg10 hc0 hc1 x0 x1 x2 xs0 fh0 fw1).2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2304 .fp8e5m2 × Vec F S8x2304 .f32 × Vec F S2048x2304 .f32 × HbBuf0 (F := F) c hbM0_1
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_arg3) (V m c main_v3_0))
  | n + 1, hn =>
    if h0 : (n + 1) % 150 = 0 then
      if h1 : (n + 1) % 150 = 149 then
        False.elim (by have hN : n + 1 < 150 := lt_of_lt_of_eq hn (show cfg0.N = 150 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_arg3) (V m c main_v3_0))
    else
      if h1 : (n + 1) % 150 = 149 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (V m c main_arg3) (outsAt0 c n (Nat.lt_of_succ_lt hn)).2.2.2)

/-- `outsAt0` at a point of case A: that case's contents. -/
theorem outsAt0_A (c : Dev nD) (t : Fin cfg0.N) (h0 : t.val % 150 = 0) (h1 : ¬t.val % 150 = 149) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0), hbw0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 150 = 0) (h1 : ¬t.val % 150 = 149) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, hbw0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 150 = 0) (h1 : t.val % 150 = 149) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2, hbw0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c n hn).2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c (n - 1) (by omega)).2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 150 := lt_of_lt_of_eq t.isLt (show cfg0.N = 150 from N_0)
  by_cases h0 : t.val % 150 = 0
  · by_cases h1 : t.val % 150 = 149
    · exfalso; omega
    · by_cases hz : t.val = 0
      · rw [PhiS_castSucc m c t, PhiS_zero m c _ _ hz, PhiDRG0_in_eq]
        rw [outsAt0_A m c t h0 h1]
        unfold out0_A_3 out0_A_4 sout0_A_0 hbw0_A_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _)
        unfold owns; iexists _; isplitr
        swap; · iexact H4
        ipureintro; exact View.read_writes_of_cover _ _ _ _ _ (cover0_A_4 c _ _ _ _ _ _ _ _ _ _ _ _ _ _ _ _ _ _ _ _ _ _ _ _)
      · exfalso; have hN : t.val < 150 := lt_of_lt_of_eq t.isLt (show cfg0.N = 150 from N_0); omega
  · by_cases h1 : t.val % 150 = 149
    · by_cases hz : t.val = 0
      · exfalso; have hN : t.val < 150 := lt_of_lt_of_eq t.isLt (show cfg0.N = 150 from N_0); omega
      · rw [PhiS_castSucc m c t, PhiS_pos m c _ _ hz]
        rw [outsAt0_C m c t h0 h1]
        unfold out0_C_3 out0_C_4 sout0_C_0 hbw0_C_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · by_cases hz : t.val = 0
      · exfalso; have hN : t.val < 150 := lt_of_lt_of_eq t.isLt (show cfg0.N = 150 from N_0); omega
      · rw [PhiS_castSucc m c t, PhiS_pos m c _ _ hz]
        rw [outsAt0_B m c t h0 h1]
        unfold out0_B_3 out0_B_4 sout0_B_0 hbw0_B_1; (try dsimp only)
        iintro ⟨⟨⟨HS0, HS1, HS2⟩, Hg, Hq0, Hh0, Hh1⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ (V m c main_arg3) _).2.2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [Hq0]; · iexact Hq0
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%fT1, HS1⟩, ⟨%fT2, HS2⟩, Hq0, Hh0, Hh1, ⟨%W', HW'⟩⟩
        isplitl [HS0 HS1 HS2 Hg Hq0 Hh0 Hh1]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _)
        unfold owns; iexists _; isplitr
        swap; · iexact H4
        ipureintro; exact View.read_writes_of_cover _ _ _ _ _ (cover0_B_4 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- There is a last point: the grid has 150. -/
theorem last_pos : (Fin.last cfg0.N).val ≠ 0 := by rw [Fin.val_last]; have : cfg0.N = 150 := N_0; omega
/-- The last point is one of the grid. Named, so that every statement about it carries the same proof. -/
theorem last_lt : (Fin.last cfg0.N).val - 1 < cfg0.N := by rw [Fin.val_last]; have : cfg0.N = 150 := N_0; omega
/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v3_0 (outsAt0 m c ((Fin.last cfg0.N).val - 1) last_lt).2.2.2
/-- `hbG0` at `main_v3_0`: `outsAt0`'s component. -/
theorem hbG0_1 (c : Dev nD) : hbG0 m c main_v3_0 = (outsAt0 m c ((Fin.last cfg0.N).val - 1) last_lt).2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) last_lt).2.2.2)) := by
  unfold Pipeline.routed; rw [BI.bigSep_eq_bigSepL_of_eq [main_v3_0] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c ((Fin.last cfg0.N).val - 1) last_lt).2.2.2))) := by
  rw [Pipeline.ΦDRG_eq, scopedRest0_eq, ownSems00_eq, hbmPts0_eq, heldG0_eq]; simp only [scM0_0, scM0_1, scM0_2, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

section
attribute [local irreducible] outsAt0 PhiS
/-- The invariant after the last point, read off the proof data. -/
theorem Phi_last (c : Dev nD) : (dats m 0 c).Φ (Fin.last cfg0.N) = PhiS m c (Fin.last cfg0.N).val (Nat.le_of_lt_succ (Fin.last cfg0.N).isLt) := by dsimp only [dats]
/-- With the contents a point leaves as a variable `o`: the named invariant gives the launch's, the scratch's contents forgotten. -/
theorem hout_aux (c : Dev nD) (o : Vec F S1024x2304 .fp8e5m2 × Vec F S8x2304 .f32 × Vec F S2048x2304 .f32 × HbBuf0 (F := F) c hbM0_1) {A B : sProp 𝕄}
    (hA : A = iprop(iprop(owns (c : Thread nD τ) scM0_0 fullShare o.2.2.1 ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 o.2.2.2)))
    (hB : B = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 o.2.2.2))) :
    A ⊢ B := by
  rw [hA, hB]
  iintro ⟨⟨HS0, HS1, HS2⟩, Hg, Hq0, Hh0, Hh1⟩
  isplitl [HS0 HS1 HS2]
  · isplitl [HS0]
    · iexists _; iexact HS0
    isplitl [HS1]
    · iexact HS1
    iexact HS2
  isplitl [Hg]; · iexact Hg
  isplitl [Hq0]
  · iexact Hq0
  isplitl [Hh0]
  · iexact Hh0
  iexact Hh1

/-- `hout_aux` after any point but the first. -/
theorem hout_n (c : Dev nD) (n : ℕ) (h : n ≤ cfg0.N) (hz : n ≠ 0) (h' : n - 1 < cfg0.N) (B : sProp 𝕄)
    (hB : B = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg3)) ∗ iprop(hbPt0 c hbM0_1 ((outsAt0 m c (n - 1) h').2.2.2)))) : PhiS m c n h ⊢ B :=
  hout_aux m c (outsAt0 m c (n - 1) h') (PhiS_pos m c n h hz) hB
/-- `hout_n` after the last point. -/
theorem hout_PhiS (c : Dev nD) : PhiS m c (Fin.last cfg0.N).val (Nat.le_of_lt_succ (Fin.last cfg0.N).isLt) ⊢ Pipeline.ΦDRG osem0 spec0 H0 R0 (V m) (hbG0 m) c :=
  hout_n m c (Fin.last cfg0.N).val (Nat.le_of_lt_succ (Fin.last cfg0.N).isLt) last_pos last_lt _ (PhiDRG0_out_eq m c)
/-- After the last point the invariant gives the launch's back, with each result the copies out write at what that point left. -/
theorem hout (c : Dev nD) : (dats m 0 c).Φ (Fin.last cfg0.N) ⊢ Pipeline.ΦDRG osem0 spec0 H0 R0 (V m) (hbG0 m) c := by
  rw [Phi_last]; exact hout_PhiS m c
end
/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelValue.lean ====
/- What the kernel over the reals leaves, block by block: the text of Gen/KernelIdeal/Value.lean over KernelFrame.lean
   instead of Gen/KernelIdeal/Frame.lean. -/
module

public import proofs.«01_k».proof.Proof.KernelFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 150 = 0) (h1 : ¬t.val % 150 = 149) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0)) := by
  rw [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 150 = 0) (h1 : ¬t.val % 150 = 149) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  rw [flushed3, outsAt0_B m c t h0 h1]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val % 150 = 0) (h1 : t.val % 150 = 149) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  rw [flushed3, outsAt0_C m c t h0 h1]

/-- The index map sends distinct grid points to distinct block indices (decided over the 150 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S153600x2304.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 150 = 0) (h1 : ¬t.val % 150 = 149) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (V m c main_arg3) (V m c main_v3_0)) := by
  rw [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 150 = 0) (h1 : ¬t.val % 150 = 149) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  rw [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 150 = 0) (h1 : t.val % 150 = 149) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (V m c main_arg3) (outsAt0 m c (t.val - 1) (Nat.lt_of_le_of_lt (Nat.sub_le _ _) t.isLt)).2.2.2) := by
  rw [flushed4, outsAt0_C m c t h0 h1]

/-- The index map sends distinct grid points to distinct block indices (decided over the 150 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S1200x2304.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 3's array is `(dats m 0 c).arrAt 3 N`. -/
theorem post3 (r : PUnit × MemSt nD τ sig (Elt F)) (h : Pipeline.FramePostRG cfgs (dats m) 0 R0 (V m) (hbG0 m) r) (c : Dev nD) :
    r.2.mem ((c : Thread nD τ).loc main_v3_1) = (dats m 0 c).arrAt 3 cfg0.N :=
  (h.toR c).1 3

/-- After the frame run, output window 4's array is `(dats m 0 c).arrAt 4 N`. -/
theorem post4 (r : PUnit × MemSt nD τ sig (Elt F)) (h : Pipeline.FramePostRG cfgs (dats m) 0 R0 (V m) (hbG0 m) r) (c : Dev nD) :
    r.2.mem ((c : Thread nD τ).loc main_v3_2) = (dats m 0 c).arrAt 4 cfg0.N :=
  (h.toR c).1 4

/-- After the frame run, argument `main_arg0` is as launched: no window stages it, and the run leaves the region's other buffers as they were (it is none of `Gen.R0`, the buffers the body itself writes). -/
theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).2 main_arg0 (Finset.mem_sdiff.mpr ⟨Pipeline.mem_restRefs_of main_arg0 (by decide) (by decide), by decide⟩)).trans (V_main_arg0 m c)

/-- After the frame run, argument `main_arg1` is as launched: no window stages it, and the run leaves the region's other buffers as they were (it is none of `Gen.R0`, the buffers the body itself writes). -/
theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).2 main_arg1 (Finset.mem_sdiff.mpr ⟨Pipeline.mem_restRefs_of main_arg1 (by decide) (by decide), by decide⟩)).trans (V_main_arg1 m c)

/-- After the frame run, argument `main_arg2` is as launched: no window stages it, and the run leaves the region's other buffers as they were (it is none of `Gen.R0`, the buffers the body itself writes). -/
theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

/-- After the frame run, argument `main_arg3` is as launched: no window stages it, and the run leaves the region's other buffers as they were (it is none of `Gen.R0`, the buffers the body itself writes). -/
theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

/-- After the frame run, `main_v3_0`, a result left in HBM that the body's copies out of scratch write, holds what the LAST point left
    in it: `Gen.outsAt0`'s component for it there (the value post states it at `Gen.hbG0`, which `Gen.hbG0_1` unfolds). -/
theorem held_main_v3_0 (r : PUnit × MemSt nD τ sig (Elt F)) (h : Pipeline.FramePostRG cfgs (dats m) 0 R0 (V m) (hbG0 m) r) (c : Dev nD) :
    r.2.mem ((c : Thread nD τ).loc main_v3_0) = (outsAt0 m c ((Fin.last cfg0.N).val - 1) last_lt).2.2.2 :=
  (h.written c (by decide : main_v3_0 ∈ R0)).trans (hbG0_1 m c)

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v3_1) = (dats m 0 c).arrAt 3 cfg0.N
      ∧ r.2.mem ((c : Thread nD τ).loc main_v3_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v3_0) = (outsAt0 m c ((Fin.last cfg0.N).val - 1) last_lt).2.2.2 :=
  (θ_run defs _ _).mono (fun r h c => ⟨post3 m r h c,
      post4 m r h c,
      kept_main_arg0 m r h c,
      kept_main_arg1 m r h c,
      kept_main_arg2 m r h c,
      kept_main_arg3 m r h c,
      held_main_v3_0 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2048x2304 .f32) : Vec F S2048x2304 .f32 :=
  if h0 : n % 150 = 0 then
    if h1 : n % 150 = 149 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (V m c main_arg3) (V m c main_v3_0)
  else
    if h1 : n % 150 = 149 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc (V m c main_arg3) (outsAt0 m c ((⟨n, hb⟩ : Fin cfg0.N).val - 1) (Nat.lt_of_le_of_lt (Nat.sub_le _ _) (⟨n, hb⟩ : Fin cfg0.N).isLt)).2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc (V m c main_arg3) (outsAt0 m c ((⟨n, hb⟩ : Fin cfg0.N).val - 1) (Nat.lt_of_le_of_lt (Nat.sub_le _ _) (⟨n, hb⟩ : Fin cfg0.N).isLt)).2.2.2

/-- WHAT CARRIED SCRATCH 0 HOLDS after point `t`: the fold of its run up to `t`, from the reset at the run's first point
    `150·(t / 150)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (150 * (t.val / 150)) (t.val % 150)
      (by have h1 := t.isLt; have h2 := Nat.div_add_mod t.val 150; omega) :=
  Pipeline.eq_accAt_of_mod (fun n h => (outsAt0 m c n h).2.2.1) 150 (fun n h => scAt0_0 m c n h (VS0_0.read (Elt F) VS0_0.junk)) (scAt0_0 m c)
    (fun n h hn => by
      have hN := lt_of_lt_of_eq h (show cfg0.N = 150 from N_0)
      by_cases h0 : n % 150 = 0 <;> by_cases h1 : n % 150 = 149
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 150 from N_0)
      by_cases h0 : (n + 1) % 150 = 0 <;> by_cases h1 : (n + 1) % 150 = 149
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 150 from N_0)
  have hd : n / 150 = 0 := Nat.div_eq_of_lt hN
  have hm : n % 150 = n := Nat.mod_eq_of_lt hN
  simpa only [hd, hm, Nat.mul_zero] using e

end Cert.KernelIdeal.Value

end
-- ==== Proof.Scale.lean ====
/-
  THE POWER-OF-TWO SCALE OF A BLOCK, over the extended reals.

  The kernel reads the exponent of `t = amax · (1 / 57344)` by counting the thresholds `2^(-126), …, 2^127, ⊤` that are
  at most `t`, and builds the words of `2^e` and `2^(-e)` from the count. The reference takes the least power of two
  above `t` and divides. This file states both as functions of one number and proves that they agree on every block
  maximum a number of bfloat16 can be, and on `⊤`.
-/
module

public import Idealize.ShloMosaic.Lib.Pointwise

@[expose] public section

noncomputable section

namespace Cert.Scale

open Idealize.ShloMosaic

/-! ## The two readings -/

/-- The rounded reciprocal of the largest magnitude of float8_e5m2. -/
def recip : EReal := Ideal.ofBits .f32 932333861#32

/-- The kernel's `k`-th threshold: the number whose exponent field is `k + 1` and whose fraction is zero. -/
def threshold (k : Fin 255) : EReal :=
  Ideal.ofBits .f32 (IntOp.shli ArithUnit.vector (IntOp.addi (BitVec.ofNat 32 ↑k) 1#32) 23#32)

/-- How many thresholds are at most `t`, as the kernel's word. -/
def count (t : EReal) : BitVec 32 :=
  Finset.fold IntOp.addi (0#32) (fun k : Fin 255 => BitVec.setWidth 32 (BitVec.ofBool (decide (threshold k ≤ t)))) Finset.univ

/-- The kernel's exponent of the scale of a block with largest magnitude `a`. -/
def kexp (a : EReal) : BitVec 32 :=
  if a = 0 then 0#32 else
    Scalar.select (IntOp.ori (IntOp.cmpi CmpIPredicate.eq (count (a * recip)) 0#32)
      (IntOp.cmpi CmpIPredicate.eq (count (a * recip)) 255#32)) (0#32) (IntOp.subi (count (a * recip)) 126#32)

/-- The kernel's scale. -/
def kscale (a : EReal) : EReal :=
  Ideal.ofBits .f32 (IntOp.shli ArithUnit.vector (IntOp.addi (kexp a) 127#32) 23#32)

/-- The kernel's inverse scale. -/
def kinv (a : EReal) : EReal :=
  Ideal.ofBits .f32 (IntOp.shli ArithUnit.vector (IntOp.addi (IntOp.subi (0#32) (kexp a)) 127#32) 23#32)

/-- The reference's `k`-th power of two. -/
def power (k : Fin 253) : EReal := ((2 : ℝ) ^ ((k.val : ℤ) - 125) : ℝ)

/-- The reference's scale of a block whose scaled largest magnitude is `t`. -/
def rscale (t : EReal) : EReal :=
  if t < ((2 : ℝ) ^ (-126 : ℤ) : ℝ) ∨ t = ⊤ then 1 else
    Finset.fold min ⊤ (fun k : Fin 253 => if t < power k then power k else ⊤) Finset.univ

/-! ## Words of powers of two -/

theorem word_fields : ∀ n : Fin 256, ((BitVec.ofNat 32 n.val <<< 23).extractLsb' 31 1 = 0#1)
    ∧ ((BitVec.ofNat 32 n.val <<< 23).extractLsb' 23 8).toNat = n.val
    ∧ ((BitVec.ofNat 32 n.val <<< 23).extractLsb' 0 23).toNat = 0 := by decide +kernel

/-- A word with sign 0, exponent field `n` and zero fraction encodes `2^(n - 127)`. -/
theorem ieee_power (b : BitVec 32) (n : ℕ) (h1 : 1 ≤ n) (h2 : n ≤ 254) (hs : b.extractLsb' 31 1 = 0#1)
    (he : (b.extractLsb' 23 8).toNat = n) (hf : (b.extractLsb' 0 23).toNat = 0) :
    Ideal.ofBits .f32 b = (((2 : ℝ) ^ ((n : ℤ) - 127) : ℝ) : EReal) := by
  have e0 : Ideal.ofBits .f32 b = Ideal.ieee 8 23 b := rfl
  rw [e0]
  unfold Ideal.ieee
  simp only [Nat.reduceAdd, hs, he, hf]
  rw [if_neg (by omega), if_neg (by omega)]
  congr 1
  have e : ((n : ℤ) - 127) = 23 + ((n : ℤ) - (2 ^ (8 - 1) - 1) - (23 : ℕ)) := by push_cast; ring
  rw [e, zpow_add₀ (by norm_num)]
  norm_num

/-- A word with sign 0, the all-ones exponent field and zero fraction encodes infinity. -/
theorem ieee_top (b : BitVec 32) (hs : b.extractLsb' 31 1 = 0#1)
    (he : (b.extractLsb' 23 8).toNat = 255) (hf : (b.extractLsb' 0 23).toNat = 0) : Ideal.ofBits .f32 b = ⊤ := by
  have e0 : Ideal.ofBits .f32 b = Ideal.ieee 8 23 b := rfl
  rw [e0]
  unfold Ideal.ieee
  simp only [Nat.reduceAdd, hs, he, hf]
  simp

theorem ofBits_power (n : ℕ) (h1 : 1 ≤ n) (h2 : n ≤ 254) :
    Ideal.ofBits .f32 (BitVec.ofNat 32 n <<< 23) = (((2 : ℝ) ^ ((n : ℤ) - 127) : ℝ) : EReal) :=
  have h := word_fields ⟨n, by omega⟩
  ieee_power _ n h1 h2 h.1 h.2.1 h.2.2

theorem ofBits_top : Ideal.ofBits .f32 (BitVec.ofNat 32 255 <<< 23) = ⊤ :=
  have h := word_fields ⟨255, by omega⟩
  ieee_top _ h.1 h.2.1 h.2.2

theorem shli23 (x : BitVec 32) : IntOp.shli ArithUnit.vector x 23#32 = x <<< 23 := by
  unfold IntOp.shli
  rw [if_pos (by decide)]
  rfl

theorem threshold_word : ∀ k : Fin 255, IntOp.addi (BitVec.ofNat 32 k.val) 1#32 = BitVec.ofNat 32 (k.val + 1) := by
  intro k
  show BitVec.ofNat 32 k.val + BitVec.ofNat 32 1 = _
  rw [← BitVec.ofNat_add]

/-- A threshold below the last is a power of two. -/
theorem threshold_lt (k : Fin 255) (h : k.val < 254) : threshold k = (((2 : ℝ) ^ ((k.val : ℤ) - 126) : ℝ) : EReal) := by
  unfold threshold
  rw [shli23, threshold_word, ofBits_power _ (by omega) (by omega)]
  congr 2
  push_cast; ring

/-- The last threshold is infinity. -/
theorem threshold_last (k : Fin 255) (h : k.val = 254) : threshold k = ⊤ := by
  unfold threshold
  rw [shli23, threshold_word, h]
  exact ofBits_top

/-! ## Counting -/

theorem fold_addi {n : ℕ} (s : Finset (Fin n)) (p : Fin n → Prop) [DecidablePred p] :
    Finset.fold IntOp.addi (0#32) (fun k => BitVec.setWidth 32 (BitVec.ofBool (decide (p k)))) s
      = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (by simp [ha])]
      simp only [h, decide_true]
      show BitVec.ofNat 32 1 + _ = _
      rw [← BitVec.ofNat_add, Nat.add_comm]
    · rw [if_neg h]
      simp only [h, decide_false]
      show BitVec.ofNat 32 0 + _ = _
      rw [← BitVec.ofNat_add, Nat.zero_add]

/-- If exactly the first `j` thresholds are at most `t`, the count is `j`. -/
theorem count_eq (t : EReal) (j : ℕ) (hj : j ≤ 255) (h : ∀ k : Fin 255, threshold k ≤ t ↔ k.val < j) :
    count t = BitVec.ofNat 32 j := by
  unfold count
  rw [fold_addi]
  congr 1
  rw [Finset.filter_congr (q := fun k : Fin 255 => k.val < j) (fun k _ => h k)]
  have := Fin.card_filter_val_lt (m := j) (n := 255)
  simpa [Nat.min_eq_right hj] using this

theorem zpow_le_iff (a b : ℤ) : ((((2 : ℝ) ^ a : ℝ) : EReal) ≤ (((2 : ℝ) ^ b : ℝ) : EReal)) ↔ a ≤ b := by
  rw [EReal.coe_le_coe_iff]
  exact zpow_le_zpow_iff_right₀ (by norm_num)

theorem zpow_lt_iff (a b : ℤ) : ((((2 : ℝ) ^ a : ℝ) : EReal) < (((2 : ℝ) ^ b : ℝ) : EReal)) ↔ a < b := by
  rw [EReal.coe_lt_coe_iff]
  exact zpow_lt_zpow_iff_right₀ (by norm_num)

/-- Below every threshold, nothing is counted. -/
theorem count_small (t : EReal) (h : t < ((2 : ℝ) ^ (-126 : ℤ) : ℝ)) : count t = 0#32 := by
  refine count_eq t 0 (by omega) fun k => ⟨fun hk => absurd (lt_of_le_of_lt hk h) ?_, fun hk => absurd hk (by omega)⟩
  by_cases hl : k.val < 254
  · rw [threshold_lt k hl, zpow_lt_iff]; omega
  · rw [threshold_last k (by omega)]; exact not_lt.mpr le_top

/-- At infinity, everything is. -/
theorem count_top : count ⊤ = 255#32 :=
  count_eq ⊤ 255 le_rfl fun k => ⟨fun _ => k.isLt, fun _ => le_top⟩

/-- Between `2^(j - 127)` and the next power, `j` thresholds are. -/
theorem count_mid (t : EReal) (j : ℕ) (h0 : 1 ≤ j) (hj : j ≤ 253) (hlo : (((2 : ℝ) ^ ((j : ℤ) - 127) : ℝ) : EReal) ≤ t)
    (hhi : t < (((2 : ℝ) ^ ((j : ℤ) - 126) : ℝ) : EReal)) : count t = BitVec.ofNat 32 j := by
  refine count_eq t j (by omega) fun k => ?_
  by_cases hl : k.val < 254
  · rw [threshold_lt k hl]
    constructor
    · intro hk
      have := (zpow_lt_iff _ _).mp (lt_of_le_of_lt hk hhi)
      omega
    · intro hk
      exact le_trans ((zpow_le_iff _ _).mpr (by omega)) hlo
  · rw [threshold_last k (by omega)]
    refine ⟨fun hk => absurd (lt_of_le_of_lt hk hhi) (not_lt.mpr le_top), fun hk => by omega⟩

/-! ## The reference's least power -/

theorem rscale_mid (t : EReal) (j : ℕ) (h0 : 1 ≤ j) (hj : j ≤ 253) (hlo : (((2 : ℝ) ^ ((j : ℤ) - 127) : ℝ) : EReal) ≤ t)
    (hhi : t < (((2 : ℝ) ^ ((j : ℤ) - 126) : ℝ) : EReal)) : rscale t = (((2 : ℝ) ^ ((j : ℤ) - 126) : ℝ) : EReal) := by
  unfold rscale
  rw [if_neg]
  · apply le_antisymm
    · rw [Finset.fold_min_le]
      refine .inr ⟨⟨j - 1, by omega⟩, Finset.mem_univ _, ?_⟩
      have e : power ⟨j - 1, by omega⟩ = (((2 : ℝ) ^ ((j : ℤ) - 126) : ℝ) : EReal) := by
        unfold power
        congr 2
        simp only
        omega
      rw [e, if_pos hhi]
    · rw [Finset.le_fold_min]
      refine ⟨le_top, fun k _ => ?_⟩
      split
      · rename_i hk
        unfold power at hk ⊢
        have := (zpow_lt_iff _ _).mp (lt_of_le_of_lt hlo hk)
        rw [zpow_le_iff]; omega
      · exact le_top
  · rintro (h | h)
    · have := (zpow_lt_iff _ _).mp (lt_of_le_of_lt hlo h)
      omega
    · rw [h] at hhi
      exact absurd hhi (not_lt.mpr le_top)

/-! ## The two agree -/

theorem select_or (b c : Prop) [Decidable b] [Decidable c] (x y : BitVec 32) :
    Scalar.select (IntOp.ori (BitVec.ofBool (decide b)) (BitVec.ofBool (decide c))) x y = if b ∨ c then x else y := by
  by_cases hb : b <;> by_cases hc : c <;> simp [hb, hc, Scalar.select, IntOp.ori]

theorem cmpi_eq (x y : BitVec 32) : IntOp.cmpi CmpIPredicate.eq x y = BitVec.ofBool (decide (x = y)) := by
  unfold IntOp.cmpi
  by_cases h : x = y
  · simp [h]
  · simp [h, beq_false_of_ne h]

theorem kexp_eq (a : EReal) : kexp a = if a = 0 ∨ count (a * recip) = 0#32 ∨ count (a * recip) = 255#32 then 0#32
    else count (a * recip) - 126#32 := by
  unfold kexp
  rw [cmpi_eq, cmpi_eq, select_or]
  by_cases h : a = 0 <;> simp [h] <;> rfl

theorem one_of_exp_zero (a : EReal) (h : kexp a = 0#32) : kscale a = 1 ∧ kinv a = 1 := by
  have e : Ideal.ofBits .f32 (BitVec.ofNat 32 127 <<< 23) = 1 := by
    rw [ofBits_power 127 (by omega) (by omega)]; norm_num
  unfold kscale kinv
  rw [shli23, shli23, h]
  exact ⟨e, e⟩

theorem div_one_one : Ideal.div 1 1 = 1 := by
  unfold Ideal.div; norm_num

/-- A number between `2^(-126)` and `2^126` lies between two neighbouring powers of two. -/
theorem exists_power (t : EReal) (hlo : (((2 : ℝ) ^ (-126 : ℤ) : ℝ) : EReal) ≤ t) (hhi : t < (((2 : ℝ) ^ (126 : ℤ) : ℝ) : EReal)) :
    ∃ j : ℕ, 1 ≤ j ∧ j ≤ 252 ∧ (((2 : ℝ) ^ ((j : ℤ) - 127) : ℝ) : EReal) ≤ t ∧ t < (((2 : ℝ) ^ ((j : ℤ) - 126) : ℝ) : EReal) := by
  induction t using EReal.rec with
  | bot => exact absurd hlo (by simp)
  | top => exact absurd hhi (by simp)
  | coe r =>
    have hr : 0 < r := lt_of_lt_of_le (by positivity) (EReal.coe_le_coe_iff.mp hlo)
    obtain ⟨n, hn1, hn2⟩ := exists_mem_Ico_zpow hr (by norm_num : (1 : ℝ) < 2)
    have h1 := (zpow_lt_iff _ _).mp (lt_of_le_of_lt hlo (EReal.coe_lt_coe_iff.mpr hn2))
    have h2 := (zpow_lt_iff _ _).mp (lt_of_le_of_lt (EReal.coe_le_coe_iff.mpr hn1) hhi)
    refine ⟨(n + 127).toNat, by omega, by omega, ?_, ?_⟩
    · rw [show (((n + 127).toNat : ℕ) : ℤ) - 127 = n by omega]; exact EReal.coe_le_coe_iff.mpr hn1
    · rw [show (((n + 127).toNat : ℕ) : ℤ) - 126 = n + 1 by omega]; exact EReal.coe_lt_coe_iff.mpr hn2

/-- The kernel's scale and inverse scale are the reference's, for every largest magnitude whose scaled value is below
    `2^126` or infinite. -/
theorem scale_eq (a : EReal) (h : a * recip < (((2 : ℝ) ^ (126 : ℤ) : ℝ) : EReal) ∨ a * recip = ⊤) :
    kscale a = rscale (a * recip) ∧ kinv a = Ideal.div 1 (rscale (a * recip)) := by
  by_cases hs : a * recip < ((2 : ℝ) ^ (-126 : ℤ) : ℝ)
  · have hr : rscale (a * recip) = 1 := by unfold rscale; rw [if_pos (.inl hs)]
    rw [hr, div_one_one]
    apply one_of_exp_zero
    rw [kexp_eq, if_pos (.inr (.inl (count_small _ hs)))]
  · rcases h with h | h
    · obtain ⟨j, h0, hj, hlo, hhi⟩ := exists_power _ (not_lt.mp hs) h
      have hc := count_mid _ j h0 (by omega) hlo hhi
      have ha : a ≠ 0 := by
        rintro rfl
        rw [zero_mul] at hs
        exact hs (by exact_mod_cast (by positivity : (0 : ℝ) < (2 : ℝ) ^ (-126 : ℤ)))
      have he : kexp a = BitVec.ofNat 32 j - 126#32 := by
        rw [kexp_eq, hc, if_neg]
        rintro (h' | h' | h')
        · exact ha h'
        · have := congrArg BitVec.toNat h'
          simp at this; omega
        · have := congrArg BitVec.toNat h'
          simp at this; omega
      have e1 : BitVec.ofNat 32 j - 126#32 + 127#32 = BitVec.ofNat 32 (j + 1) := by
        apply BitVec.eq_of_toNat_eq
        simp only [BitVec.toNat_add, BitVec.toNat_sub, BitVec.toNat_ofNat]
        omega
      have e2 : 0#32 - (BitVec.ofNat 32 j - 126#32) + 127#32 = BitVec.ofNat 32 (253 - j) := by
        apply BitVec.eq_of_toNat_eq
        simp only [BitVec.toNat_add, BitVec.toNat_sub, BitVec.toNat_ofNat]
        omega
      rw [rscale_mid _ j h0 (by omega) hlo hhi]
      constructor
      · unfold kscale
        rw [shli23, he]
        show Ideal.ofBits .f32 ((BitVec.ofNat 32 j - 126#32 + 127#32) <<< 23) = _
        rw [e1, ofBits_power _ (by omega) (by omega)]
        congr 2; push_cast; ring
      · unfold kinv
        rw [shli23, he]
        show Ideal.ofBits .f32 ((0#32 - (BitVec.ofNat 32 j - 126#32) + 127#32) <<< 23) = _
        rw [e2, ofBits_power _ (by omega) (by omega)]
        have hne : (((2 : ℝ) ^ ((j : ℤ) - 126) : ℝ) : EReal) ≠ 0 := by
          have : (2 : ℝ) ^ ((j : ℤ) - 126) ≠ 0 := by positivity
          exact_mod_cast this
        unfold Ideal.div
        rw [if_neg hne, one_mul, ← EReal.coe_inv, ← zpow_neg]
        congr 2
        rw [Nat.cast_sub (by omega)]; push_cast; ring
    · have hr : rscale (a * recip) = 1 := by unfold rscale; rw [if_pos (.inr h)]
      rw [hr, div_one_one]
      apply one_of_exp_zero
      rw [kexp_eq, h, if_pos (.inr (.inr count_top))]

end Cert.Scale

end
-- ==== Proof.Block.lean ====
/-
  ONE BLOCK OF 128 TOKENS: what the kernel computes from the rows of one block, read at an index.

  The kernel's body repeats the same text for each of the eight blocks of a grid point. Every copy is the function of
  the block's rows that the first copy is (`codes_b`, `scales_b`, `dequant_b`, `rows_b`), and that function is, at an
  index, the arithmetic of Scale.lean (`codes_apply`, `scales_apply`, `dequant_apply`, `rows_apply`). A tile of the
  accumulator gains the product of a tile of `x` and a tile of `dy` (`tile_apply`).
-/
module

public import proofs.«01_k».proof.Proof.Gen.KernelIdeal.Skeleton
public import proofs.«01_k».proof.Proof.Scale

@[expose] public section

noncomputable section

namespace Cert.KernelIdeal.Block

open Idealize.ShloMosaic Cert.KernelIdeal Cert.KernelIdeal.Gen

/-! ## The functions of one block -/

/-- The codes of a block of rows. -/
def codes (v : Vec Ideal S128x2304 .bf16) : FVec Ideal S128x2304 .fp8e5m2 := k0_pay5 (F := Ideal) (k0_pay2 v) (k0_pay3 v)
/-- Its scales, one per column. -/
def scales (v : Vec Ideal S128x2304 .bf16) : FVec Ideal S1x2304 .f32 := k0_pay4 (F := Ideal) v
/-- Its codes times its scales. -/
def dequant (v : Vec Ideal S128x2304 .bf16) : FVec Ideal S128x2304 .bf16 := k0_pay6 (F := Ideal) (k0_pay2 v) (k0_pay3 v) (k0_pay4 v)
/-- The rows of `x` of a block times their scales, transposed. -/
def rows (x : Vec Ideal S128x2048 .fp8e4m3) (xs : Vec Ideal S1x2048 .f32) : FVec Ideal S2048x128 .bf16 := k0_pay7 (F := Ideal) x xs
/-- A tile of the accumulator plus a product of tiles. -/
def tile (a : Vec Ideal S512x256 .f32) (x : Vec Ideal S512x1024 .bf16) (d : Vec Ideal S1024x256 .bf16) : FVec Ideal S512x256 .f32 :=
  k0_pay69 (F := Ideal) a x d

/-! ## The eight copies are one -/

theorem codes_0 (v : Vec Ideal S128x2304 .bf16) : k0_pay5 (F := Ideal) (k0_pay2 v) (k0_pay3 v) = codes v := rfl
theorem codes_1 (v : Vec Ideal S128x2304 .bf16) : k0_pay12 (F := Ideal) (k0_pay8 v) (k0_pay11 v) = codes v := rfl
theorem codes_2 (v : Vec Ideal S128x2304 .bf16) : k0_pay21 (F := Ideal) (k0_pay20 (k0_pay15 v) (k0_pay16 v) k0_pay17) (FloatOps.ofBits FTy.f32 3344957440#32) (FloatOps.ofBits FTy.f32 1197473792#32) = codes v := rfl
theorem codes_3 (v : Vec Ideal S128x2304 .bf16) : k0_pay30 (F := Ideal) (k0_pay24 v) (k0_pay25 v) (k0_pay26 v) k0_pay27 = codes v := rfl
theorem codes_4 (v : Vec Ideal S128x2304 .bf16) : k0_pay39 (F := Ideal) (k0_pay33 v) (k0_pay34 v) (k0_pay35 v) (k0_pay36 v) = codes v := rfl
theorem codes_5 (v : Vec Ideal S128x2304 .bf16) : k0_pay51 (F := Ideal) (k0_pay43 v) (k0_pay44 v) (k0_pay46 v) (k0_pay47 v) k0_pay48 = codes v := rfl
theorem codes_6 (v : Vec Ideal S128x2304 .bf16) : k0_pay59 (F := Ideal) (k0_pay55 v) (k0_pay56 v) = codes v := rfl
theorem codes_7 (v : Vec Ideal S128x2304 .bf16) : k0_pay66 (F := Ideal) (k0_pay63 v) (k0_pay64 v) = codes v := rfl
theorem scales_0 (v : Vec Ideal S128x2304 .bf16) : k0_pay4 (F := Ideal) v = scales v := rfl
theorem scales_1 (v : Vec Ideal S128x2304 .bf16) : k0_pay10 (F := Ideal) v = scales v := rfl
theorem scales_2 (v : Vec Ideal S128x2304 .bf16) : k0_pay19 (F := Ideal) (k0_pay16 v) k0_pay17 = scales v := rfl
theorem scales_3 (v : Vec Ideal S128x2304 .bf16) : k0_pay29 (F := Ideal) (k0_pay25 v) (k0_pay26 v) k0_pay27 = scales v := rfl
theorem scales_4 (v : Vec Ideal S128x2304 .bf16) : k0_pay38 (F := Ideal) (k0_pay34 v) (k0_pay35 v) (k0_pay36 v) = scales v := rfl
theorem scales_5 (v : Vec Ideal S128x2304 .bf16) : k0_pay50 (F := Ideal) (k0_pay44 v) (k0_pay46 v) (k0_pay47 v) k0_pay48 = scales v := rfl
theorem scales_6 (v : Vec Ideal S128x2304 .bf16) : k0_pay58 (F := Ideal) (k0_pay56 v) k0_pay57 = scales v := rfl
theorem scales_7 (v : Vec Ideal S128x2304 .bf16) : k0_pay65 (F := Ideal) v = scales v := rfl
theorem dequant_0 (v : Vec Ideal S128x2304 .bf16) : k0_pay6 (F := Ideal) (k0_pay2 v) (k0_pay3 v) (k0_pay4 v) = dequant v := rfl
theorem dequant_1 (v : Vec Ideal S128x2304 .bf16) : k0_pay13 (F := Ideal) (k0_pay8 v) (k0_pay10 v) (k0_pay11 v) = dequant v := rfl
theorem dequant_2 (v : Vec Ideal S128x2304 .bf16) : k0_pay22 (F := Ideal) (k0_pay19 (k0_pay16 v) k0_pay17) (k0_pay20 (k0_pay15 v) (k0_pay16 v) k0_pay17) (FloatOps.ofBits FTy.f32 3344957440#32) (FloatOps.ofBits FTy.f32 1197473792#32) = dequant v := rfl
theorem dequant_3 (v : Vec Ideal S128x2304 .bf16) : k0_pay31 (F := Ideal) (k0_pay29 (k0_pay25 v) (k0_pay26 v) k0_pay27) (k0_pay30 (k0_pay24 v) (k0_pay25 v) (k0_pay26 v) k0_pay27) = dequant v := rfl
theorem dequant_4 (v : Vec Ideal S128x2304 .bf16) : k0_pay41 (F := Ideal) (k0_pay40 (k0_pay33 v) (k0_pay34 v) (k0_pay35 v) (k0_pay36 v)) = dequant v := rfl
theorem dequant_5 (v : Vec Ideal S128x2304 .bf16) : k0_pay52 (F := Ideal) (k0_pay43 v) (k0_pay44 v) (k0_pay46 v) (k0_pay47 v) k0_pay48 = dequant v := rfl
theorem dequant_6 (v : Vec Ideal S128x2304 .bf16) : k0_pay60 (F := Ideal) (k0_pay55 v) (k0_pay56 v) k0_pay57 = dequant v := rfl
theorem dequant_7 (v : Vec Ideal S128x2304 .bf16) : k0_pay67 (F := Ideal) (k0_pay63 v) (k0_pay64 v) (k0_pay65 v) = dequant v := rfl
theorem rows_0 (x : Vec Ideal S128x2048 .fp8e4m3) (xs : Vec Ideal S1x2048 .f32) : k0_pay7 (F := Ideal) x xs = rows x xs := rfl
theorem rows_1 (x : Vec Ideal S128x2048 .fp8e4m3) (xs : Vec Ideal S1x2048 .f32) : k0_pay14 (F := Ideal) x xs = rows x xs := rfl
theorem rows_2 (x : Vec Ideal S128x2048 .fp8e4m3) (xs : Vec Ideal S1x2048 .f32) : k0_pay23 (F := Ideal) x xs = rows x xs := rfl
theorem rows_3 (x : Vec Ideal S128x2048 .fp8e4m3) (xs : Vec Ideal S1x2048 .f32) : k0_pay32 (F := Ideal) x xs = rows x xs := rfl
theorem rows_4 (x : Vec Ideal S128x2048 .fp8e4m3) (xs : Vec Ideal S1x2048 .f32) : k0_pay42 (F := Ideal) x xs = rows x xs := rfl
theorem rows_5 (x : Vec Ideal S128x2048 .fp8e4m3) (xs : Vec Ideal S1x2048 .f32) : k0_pay54 (F := Ideal) (k0_pay53 x) xs = rows x xs := rfl
theorem rows_6 (x : Vec Ideal S128x2048 .fp8e4m3) (xs : Vec Ideal S1x2048 .f32) : k0_pay62 (F := Ideal) (k0_pay61 x xs) = rows x xs := rfl
theorem rows_7 (x : Vec Ideal S128x2048 .fp8e4m3) (xs : Vec Ideal S1x2048 .f32) : k0_pay68 (F := Ideal) x xs = rows x xs := rfl

/-! ## Read at an index -/

/-- The largest magnitude of column `j`. -/
def amax (v : Vec Ideal S128x2304 .bf16) (j : Fin 2304) : EReal :=
  Finset.fold max (Ideal.ofBits FTy.bf16 65408#16) (fun x : Fin 128 => FloatOps.absf (F := Ideal) (φ := .bf16) (v (ix2 x j))) Finset.univ

/-- A value divided by the block's scale, clipped to the largest magnitude of float8_e5m2. -/
def clip (x s : EReal) : EReal :=
  min (Ideal.ofBits FTy.f32 1197473792#32) (max (Ideal.ofBits FTy.f32 3344957440#32) (x * s))

theorem scales_apply (v : Vec Ideal S128x2304 .bf16) (r : Fin 1) (j : Fin 2304) :
    scales v (ix2 r j) = Scale.kscale (amax v j) := by
  unfold scales
  pointwise [k0_pay4, k0_pay3, k0_pay2]
  rfl

theorem codes_apply (v : Vec Ideal S128x2304 .bf16) (i : Fin 128) (j : Fin 2304) :
    codes v (ix2 i j) = clip (v (ix2 i j)) (Scale.kinv (amax v j)) := by
  unfold codes
  pointwise [k0_pay5, k0_pay3, k0_pay2]
  rfl

theorem dequant_apply (v : Vec Ideal S128x2304 .bf16) (i : Fin 128) (j : Fin 2304) :
    dequant v (ix2 i j) = clip (v (ix2 i j)) (Scale.kinv (amax v j)) * Scale.kscale (amax v j) := by
  rw [← codes_apply, ← scales_apply v 0]
  unfold dequant codes scales
  pointwise [k0_pay6]

theorem rows_apply (x : Vec Ideal S128x2048 .fp8e4m3) (xs : Vec Ideal S1x2048 .f32) (i : Fin 2048) (j : Fin 128) :
    rows x xs (ix2 i j) = x (ix2 j i) * xs (ix2 0 i) := by
  unfold rows
  pointwise [k0_pay7]

theorem tile_apply (a : Vec Ideal S512x256 .f32) (x : Vec Ideal S512x1024 .bf16) (d : Vec Ideal S1024x256 .bf16)
    (p : Fin 512) (q : Fin 256) :
    tile a x d (ix2 p q) = a (ix2 p q) + ∑ k : Fin 1024, x (ix2 p k) * d (ix2 k q) := by
  unfold tile
  pointwise [k0_pay69]

end Cert.KernelIdeal.Block

end
-- ==== Proof.Point.lean ====
/-
  ONE GRID POINT: the stores of the kernel's body, each read as a part of one function of the point's blocks.

  A point holds 1024 tokens, eight blocks of 128. Every store of codes, of scales and into the two scratch arrays writes
  the part its rectangle names of `codeAt`, `scaleAt`, `xAt`, `dyAt`; every store into the accumulator adds, in its tile,
  the sum `gain` over the 1024 tokens.
-/
module

public import proofs.«01_k».proof.Proof.Block
public import Idealize.ShloMosaic.Lib.Pipeline.ValueKit
public import Idealize.ShloMosaic.Lib.Pipeline.Value

@[expose] public section

noncomputable section

namespace Cert.KernelIdeal.Point

open Idealize.ShloMosaic Cert.KernelIdeal Cert.KernelIdeal.Gen Cert.KernelIdeal.Block

/-! ## The functions of a point's blocks -/

/-- The largest magnitude of column `j` in block `b`. -/
def amaxB (x2 : Vec Ideal S1024x2304 .bf16) (b : Fin 8) (j : Fin 2304) : EReal :=
  Finset.fold max (Ideal.ofBits FTy.bf16 65408#16)
    (fun x : Fin 128 => FloatOps.absf (F := Ideal) (φ := .bf16) (x2 (ix2 (⟨128 * b.val + x.val, by omega⟩ : Fin 1024) j))) Finset.univ

/-- The block of a token. -/
def blockOf (r : Fin 1024) : Fin 8 := ⟨r.val / 128, by omega⟩

/-- The code of token `r`, column `j`. -/
def codeAt (x2 : Vec Ideal S1024x2304 .bf16) (y : S1024x2304.Idx) : EReal :=
  clip (x2 y) (Scale.kinv (amaxB x2 (blockOf (y 0)) (y 1)))

/-- The scale of block `b`, column `j`. -/
def scaleAt (x2 : Vec Ideal S1024x2304 .bf16) (y : S8x2304.Idx) : EReal := Scale.kscale (amaxB x2 (y 0) (y 1))

/-- The code times its scale. -/
def dyAt (x2 : Vec Ideal S1024x2304 .bf16) (y : S1024x2304.Idx) : EReal :=
  codeAt x2 y * Scale.kscale (amaxB x2 (blockOf (y 0)) (y 1))

/-- `x` times its scale, transposed. -/
def xAt (x0 : Vec Ideal S1024x2048 .fp8e4m3) (x1 : Vec Ideal S8x2048 .f32) (y : S2048x1024.Idx) : EReal :=
  x0 (ix2 (y 1 : Fin 1024) (y 0 : Fin 2048)) * x1 (ix2 (blockOf (y 1)) (y 0 : Fin 2048))

/-- What the point adds to the accumulator. -/
def gain (x0 : Vec Ideal S1024x2048 .fp8e4m3) (x1 : Vec Ideal S8x2048 .f32) (x2 : Vec Ideal S1024x2304 .bf16)
    (y : S2048x2304.Idx) : EReal :=
  ∑ k : Fin 1024, xAt x0 x1 (ix2 (y 0 : Fin 2048) k) * dyAt x2 (ix2 k (y 1 : Fin 2304))

/-! ## Loads of a block's rows -/

theorem amax_ld (x2 : Vec Ideal S1024x2304 .bf16) (b : Fin 8) (o : ℕ) (ho : o = 128 * b.val)
    (inb : ∀ a : Fin 2, (![o, 0] : Fin 2 → ℕ) a + S128x2304.size a ≤ S1024x2304.size a) (j : Fin 2304) :
    amax (View.ld x2 (Rect.unit (s := S1024x2304) ![o, 0] S128x2304.size inb)) j = amaxB x2 b j := by
  unfold amax amaxB
  congr 1
  funext x
  congr 1
  refine View.ld_unit_apply_of x2 _ _ _ _ _ fun a => ?_
  match a with
  | ⟨0, _⟩ => show 128 * b.val + x.val = o + x.val; omega
  | ⟨1, _⟩ => show j.val = 0 + j.val; omega

theorem emb_val {S : Shape} (off size : Fin S.rank → ℕ) (inb) (x : (Rect.unit (s := S) off size inb).shape.Idx) (a : Fin S.rank) :
    (((Rect.unit off size inb).emb x) a : ℕ) = off a + (x a : ℕ) :=
  Rect.idx_unit_val off size inb x a

/-- A block of rows starting at `o` sits there. -/
theorem emb_rows {A B a b : ℕ} (o : ℕ) (inb) (i : Fin a) (j : Fin b) (h0 : o + i.val < A) (h1 : j.val < B) :
    (Rect.unit (s := ⟨2, ![A, B]⟩) ![o, 0] (⟨2, ![a, b]⟩ : Shape).size inb).emb (ix2 i j) = ix2 ⟨o + i.val, h0⟩ ⟨j.val, h1⟩ :=
  funext fun c => Fin.ext <| (emb_val _ _ inb _ c).trans <| match c with
    | ⟨0, _⟩ => rfl
    | ⟨1, _⟩ => Nat.zero_add _

/-- A block of columns starting at `o` sits there. -/
theorem emb_cols {A B a b : ℕ} (o : ℕ) (inb) (i : Fin a) (j : Fin b) (h0 : i.val < A) (h1 : o + j.val < B) :
    (Rect.unit (s := ⟨2, ![A, B]⟩) ![0, o] (⟨2, ![a, b]⟩ : Shape).size inb).emb (ix2 i j) = ix2 ⟨i.val, h0⟩ ⟨o + j.val, h1⟩ :=
  funext fun c => Fin.ext <| (emb_val _ _ inb _ c).trans <| match c with
    | ⟨0, _⟩ => Nat.zero_add _
    | ⟨1, _⟩ => rfl

/-- A tile starting at `(o, p)` sits there. -/
theorem emb_tile {A B a b : ℕ} (o p : ℕ) (inb) (i : Fin a) (j : Fin b) (h0 : o + i.val < A) (h1 : p + j.val < B) :
    (Rect.unit (s := ⟨2, ![A, B]⟩) ![o, p] (⟨2, ![a, b]⟩ : Shape).size inb).emb (ix2 i j) = ix2 ⟨o + i.val, h0⟩ ⟨p + j.val, h1⟩ :=
  funext fun c => Fin.ext <| (emb_val _ _ inb _ c).trans <| match c with
    | ⟨0, _⟩ => rfl
    | ⟨1, _⟩ => rfl

theorem blockOf_add (b : Fin 8) (o : ℕ) (ho : o = 128 * b.val) (i : Fin 128) (h : o + i.val < 1024) : blockOf ⟨o + i.val, h⟩ = b :=
  Fin.ext (by show (o + i.val) / 128 = b.val; omega)

/-- A store of codes writes its rows of `codeAt`. -/
theorem codes_piece (b : Fin 8) (o : ℕ) (ho : o = 128 * b.val) (a3 : Memref sig .tc .vmem S1024x2304 .bf16) (h3 : a3.IsWhole)
    (x2 : Vec Ideal S1024x2304 .bf16)
    (inb inb' : ∀ a : Fin 2, (![o, 0] : Fin 2 → ℕ) a + S128x2304.size a ≤ S1024x2304.size a) (x : S128x2304.Idx) :
    codes (View.readAt (Elt Ideal) a3.view (Rect.unit (s := S1024x2304) ![o, 0] S128x2304.size inb).toLoadRect (h3.unread x2)) x
      = codeAt x2 ((Rect.unit (s := S1024x2304) ![o, 0] S128x2304.size inb').emb x) := by
  obtain ⟨i, j, rfl⟩ : ∃ (i : Fin 128) (j : Fin 2304), x = ix2 i j := ⟨x 0, x 1, eq_ix2 x⟩
  have hE : (Rect.unit (s := S1024x2304) ![o, 0] S128x2304.size inb').emb (ix2 i j) = ix2 ⟨o + i.val, by omega⟩ j := emb_rows o inb' i j _ _
  rw [View.readAt_eq_ld, h3.read_unread, codes_apply, amax_ld x2 b o ho, hE]
  unfold codeAt
  show clip (x2 ((Rect.unit (s := S1024x2304) ![o, 0] S128x2304.size inb').emb (ix2 i j))) _ = clip _ (Scale.kinv (amaxB x2 (blockOf ⟨o + i.val, _⟩) j))
  rw [hE, blockOf_add b o ho i]

/-- A store of scales writes its row of `scaleAt`. -/
theorem scales_piece (b : Fin 8) (o : ℕ) (ho : o = 128 * b.val) (p : ℕ) (hp : p = b.val) (a3 : Memref sig .tc .vmem S1024x2304 .bf16) (h3 : a3.IsWhole)
    (x2 : Vec Ideal S1024x2304 .bf16)
    (inb : ∀ a : Fin 2, (![o, 0] : Fin 2 → ℕ) a + S128x2304.size a ≤ S1024x2304.size a)
    (inb' : ∀ a : Fin 2, (![p, 0] : Fin 2 → ℕ) a + S1x2304.size a ≤ S8x2304.size a) (x : S1x2304.Idx) :
    scales (View.readAt (Elt Ideal) a3.view (Rect.unit (s := S1024x2304) ![o, 0] S128x2304.size inb).toLoadRect (h3.unread x2)) x
      = scaleAt x2 ((Rect.unit (s := S8x2304) ![p, 0] S1x2304.size inb').emb x) := by
  obtain ⟨i, j, rfl⟩ : ∃ (i : Fin 1) (j : Fin 2304), x = ix2 i j := ⟨x 0, x 1, eq_ix2 x⟩
  have hE : (Rect.unit (s := S8x2304) ![p, 0] S1x2304.size inb').emb (ix2 i j) = ix2 ⟨p + i.val, by omega⟩ j := emb_rows p inb' i j _ _
  rw [View.readAt_eq_ld, h3.read_unread, scales_apply, amax_ld x2 b o ho, hE]
  unfold scaleAt
  show _ = Scale.kscale (amaxB x2 ⟨p + i.val, _⟩ j)
  congr 2
  exact Fin.ext (by show b.val = p + i.val; omega)

/-- A store of dequantised values writes its rows of `dyAt`. -/
theorem dequant_piece (b : Fin 8) (o : ℕ) (ho : o = 128 * b.val) (a3 : Memref sig .tc .vmem S1024x2304 .bf16) (h3 : a3.IsWhole)
    (x2 : Vec Ideal S1024x2304 .bf16)
    (inb inb' : ∀ a : Fin 2, (![o, 0] : Fin 2 → ℕ) a + S128x2304.size a ≤ S1024x2304.size a) (x : S128x2304.Idx) :
    dequant (View.readAt (Elt Ideal) a3.view (Rect.unit (s := S1024x2304) ![o, 0] S128x2304.size inb).toLoadRect (h3.unread x2)) x
      = dyAt x2 ((Rect.unit (s := S1024x2304) ![o, 0] S128x2304.size inb').emb x) := by
  obtain ⟨i, j, rfl⟩ : ∃ (i : Fin 128) (j : Fin 2304), x = ix2 i j := ⟨x 0, x 1, eq_ix2 x⟩
  have hE : (Rect.unit (s := S1024x2304) ![o, 0] S128x2304.size inb').emb (ix2 i j) = ix2 ⟨o + i.val, by omega⟩ j := emb_rows o inb' i j _ _
  rw [View.readAt_eq_ld, h3.read_unread, dequant_apply, amax_ld x2 b o ho, hE]
  unfold dyAt codeAt
  show clip (x2 ((Rect.unit (s := S1024x2304) ![o, 0] S128x2304.size inb').emb (ix2 i j))) _ * _
    = clip _ (Scale.kinv (amaxB x2 (blockOf ⟨o + i.val, _⟩) j)) * Scale.kscale (amaxB x2 (blockOf ⟨o + i.val, _⟩) j)
  rw [hE, blockOf_add b o ho i]

/-- A store of the transposed rows of `x` writes its columns of `xAt`. -/
theorem rows_piece (b : Fin 8) (o : ℕ) (ho : o = 128 * b.val) (p : ℕ) (hp : p = b.val)
    (a1 : Memref sig .tc .vmem S1024x2048 .fp8e4m3) (h1 : a1.IsWhole) (a2 : Memref sig .tc .vmem S8x2048 .f32) (h2 : a2.IsWhole)
    (x0 : Vec Ideal S1024x2048 .fp8e4m3) (x1 : Vec Ideal S8x2048 .f32)
    (inb : ∀ a : Fin 2, (![o, 0] : Fin 2 → ℕ) a + S128x2048.size a ≤ S1024x2048.size a)
    (inb1 : ∀ a : Fin 2, (![p, 0] : Fin 2 → ℕ) a + S1x2048.size a ≤ S8x2048.size a)
    (inb' : ∀ a : Fin 2, (![0, o] : Fin 2 → ℕ) a + S2048x128.size a ≤ S2048x1024.size a) (x : S2048x128.Idx) :
    rows (View.readAt (Elt Ideal) a1.view (Rect.unit (s := S1024x2048) ![o, 0] S128x2048.size inb).toLoadRect (h1.unread x0))
        (View.readAt (Elt Ideal) a2.view (Rect.unit (s := S8x2048) ![p, 0] S1x2048.size inb1).toLoadRect (h2.unread x1)) x
      = xAt x0 x1 ((Rect.unit (s := S2048x1024) ![0, o] S2048x128.size inb').emb x) := by
  obtain ⟨i, j, rfl⟩ : ∃ (i : Fin 2048) (j : Fin 128), x = ix2 i j := ⟨x 0, x 1, eq_ix2 x⟩
  have hE : (Rect.unit (s := S2048x1024) ![0, o] S2048x128.size inb').emb (ix2 i j) = ix2 i ⟨o + j.val, by omega⟩ := emb_cols o inb' i j _ _
  have h0 : (Rect.unit (s := S1024x2048) ![o, 0] S128x2048.size inb).emb (ix2 j i) = ix2 ⟨o + j.val, by omega⟩ i := emb_rows o inb j i _ _
  have h1' : (Rect.unit (s := S8x2048) ![p, 0] S1x2048.size inb1).emb (ix2 0 i) = ix2 b i :=
    (emb_rows p inb1 (0 : Fin 1) i (by show p + 0 < 8; omega) i.isLt).trans (congrArg (fun z => ix2 z i) (Fin.ext (by show p + 0 = b.val; omega)))
  rw [View.readAt_eq_ld, h1.read_unread, View.readAt_eq_ld, h2.read_unread, rows_apply, hE]
  unfold xAt
  show x0 ((Rect.unit (s := S1024x2048) ![o, 0] S128x2048.size inb).emb (ix2 j i)) * x1 ((Rect.unit (s := S8x2048) ![p, 0] S1x2048.size inb1).emb (ix2 0 i))
    = x0 (ix2 ⟨o + j.val, _⟩ i) * x1 (ix2 (blockOf ⟨o + j.val, _⟩) i)
  rw [h0, h1', blockOf_add b o ho j]

/-! ## The accumulator's tiles -/

/-- A tile of the accumulator whose old contents are `O` ends with its part of `O + gain`. -/
theorem tile_piece (O : S2048x2304.Idx → EReal)
    (x0 : Vec Ideal S1024x2048 .fp8e4m3) (x1 : Vec Ideal S8x2048 .f32) (x2 : Vec Ideal S1024x2304 .bf16)
    (a9 : Memref sig .tc .vmem S2048x1024 .bf16) (a10 : Memref sig .tc .vmem S1024x2304 .bf16)
    (L1 : List (View.Piece (Elt Ideal) S2048x1024 .bf16)) (L2 : List (View.Piece (Elt Ideal) S1024x2304 .bf16))
    (hL1 : ∀ y, View.canon L1 y = xAt x0 x1 y) (hL2 : ∀ y, View.canon L2 y = dyAt x2 y)
    (m n : ℕ)
    (inb1 : ∀ a : Fin 2, (![m, 0] : Fin 2 → ℕ) a + S512x1024.size a ≤ S2048x1024.size a)
    (inb2 : ∀ a : Fin 2, (![0, n] : Fin 2 → ℕ) a + S1024x256.size a ≤ S1024x2304.size a)
    (inb' : ∀ a : Fin 2, (![m, n] : Fin 2 → ℕ) a + S512x256.size a ≤ S2048x2304.size a)
    (P : Vec Ideal S512x256 .f32)
    (hP : ∀ x : S512x256.Idx, P x = O ((Rect.unit (s := S2048x2304) ![m, n] S512x256.size inb').emb x)) (x : S512x256.Idx) :
    tile P (a9.view.readCov L1 (Rect.unit (s := S2048x1024) ![m, 0] S512x1024.size inb1).toLoadRect)
        (a10.view.readCov L2 (Rect.unit (s := S1024x2304) ![0, n] S1024x256.size inb2).toLoadRect) x
      = O ((Rect.unit (s := S2048x2304) ![m, n] S512x256.size inb').emb x)
        + gain x0 x1 x2 ((Rect.unit (s := S2048x2304) ![m, n] S512x256.size inb').emb x) := by
  have hm : m + 512 ≤ 2048 := inb' 0
  have hn : n + 256 ≤ 2304 := inb' 1
  obtain ⟨p, q, rfl⟩ : ∃ (p : Fin 512) (q : Fin 256), x = ix2 p q := ⟨x 0, x 1, eq_ix2 x⟩
  have hE : (Rect.unit (s := S2048x2304) ![m, n] S512x256.size inb').emb (ix2 p q) = ix2 ⟨m + p.val, by omega⟩ ⟨n + q.val, by omega⟩ :=
    emb_tile m n inb' p q _ _
  rw [tile_apply, hP (ix2 p q), hE]
  congr 1
  unfold gain
  refine Finset.sum_congr rfl fun k _ => ?_
  rw [View.readCov_eq_canon', View.readCov_eq_canon']
  show View.canon L1 ((Rect.unit (s := S2048x1024) ![m, 0] S512x1024.size inb1).emb (ix2 p k))
      * View.canon L2 ((Rect.unit (s := S1024x2304) ![0, n] S1024x256.size inb2).emb (ix2 k q))
    = xAt x0 x1 (ix2 ⟨m + p.val, _⟩ k) * dyAt x2 (ix2 k ⟨n + q.val, _⟩)
  rw [hL1, hL2]
  have e1 : (Rect.unit (s := S2048x1024) ![m, 0] S512x1024.size inb1).emb (ix2 p k) = ix2 ⟨m + p.val, by omega⟩ k := emb_rows m inb1 p k _ _
  have e2 : (Rect.unit (s := S1024x2304) ![0, n] S1024x256.size inb2).emb (ix2 k q) = ix2 k ⟨n + q.val, by omega⟩ := emb_cols n inb2 k q _ _
  rw [e1, e2]

/-- The tile of an index, in the order the body visits the tiles. -/
def tileOf (y : S2048x2304.Idx) : ℕ := 4 * ((y 1 : ℕ) / 256) + (y 0 : ℕ) / 512

theorem tileOf_emb (m n : ℕ) (hm : m % 512 = 0) (hn : n % 256 = 0)
    (inb' : ∀ a : Fin 2, (![m, n] : Fin 2 → ℕ) a + S512x256.size a ≤ S2048x2304.size a) (x : S512x256.Idx) :
    tileOf ((Rect.unit (s := S2048x2304) ![m, n] S512x256.size inb').emb x) = 4 * (n / 256) + m / 512 := by
  have e0 := emb_val (S := S2048x2304) ![m, n] S512x256.size inb' x 0
  have e1 := emb_val (S := S2048x2304) ![m, n] S512x256.size inb' x 1
  have h0 : (x 0 : ℕ) < 512 := (x 0).isLt
  have h1 : (x 1 : ℕ) < 256 := (x 1).isLt
  unfold tileOf
  rw [e0, e1]
  show 4 * ((n + (x 1 : ℕ)) / 256) + (m + (x 0 : ℕ)) / 512 = _
  omega

/-- Off its last write the contents are those of the earlier ones. -/
theorem canon_off {S : Shape} (r : Rect S) (w : r.shape.Idx → Elt Ideal .f32) (L : List (View.Piece (Elt Ideal) S .f32)) (y : S.Idx)
    (hy : y ∉ r.set) : View.canon ((⟨r, w⟩ : View.Piece (Elt Ideal) S .f32) :: L) y = View.canon L y :=
  View.canon_cons_of_not_mem (⟨r, w⟩ : View.Piece (Elt Ideal) S .f32) L hy

/-- One more tile stored: if the writes so far hold the new contents in the first `k` tiles and the old ones elsewhere,
    then with tile `k` written they hold the new ones in the first `k + 1`. -/
theorem tile_step (O : S2048x2304.Idx → EReal)
    (x0 : Vec Ideal S1024x2048 .fp8e4m3) (x1 : Vec Ideal S8x2048 .f32) (x2 : Vec Ideal S1024x2304 .bf16)
    (a8 : Memref sig .tc .vmem S2048x2304 .f32)
    (a9 : Memref sig .tc .vmem S2048x1024 .bf16) (a10 : Memref sig .tc .vmem S1024x2304 .bf16)
    (L1 : List (View.Piece (Elt Ideal) S2048x1024 .bf16)) (L2 : List (View.Piece (Elt Ideal) S1024x2304 .bf16))
    (hL1 : ∀ y, View.canon L1 y = xAt x0 x1 y) (hL2 : ∀ y, View.canon L2 y = dyAt x2 y)
    (k m n : ℕ) (hm : m % 512 = 0) (hn : n % 256 = 0) (hk : k = 4 * (n / 256) + m / 512)
    (inb1 : ∀ a : Fin 2, (![m, 0] : Fin 2 → ℕ) a + S512x1024.size a ≤ S2048x1024.size a)
    (inb2 : ∀ a : Fin 2, (![0, n] : Fin 2 → ℕ) a + S1024x256.size a ≤ S1024x2304.size a)
    (inb inb' : ∀ a : Fin 2, (![m, n] : Fin 2 → ℕ) a + S512x256.size a ≤ S2048x2304.size a)
    (L : List (View.Piece (Elt Ideal) S2048x2304 .f32))
    (hL : ∀ y, View.canon L y = if tileOf y < k then O y + gain x0 x1 x2 y else O y) (y : S2048x2304.Idx) :
    View.canon ((⟨Rect.unit (s := S2048x2304) ![m, n] S512x256.size inb',
        tile (a8.view.readCov L (Rect.unit (s := S2048x2304) ![m, n] S512x256.size inb).toLoadRect)
          (a9.view.readCov L1 (Rect.unit (s := S2048x1024) ![m, 0] S512x1024.size inb1).toLoadRect)
          (a10.view.readCov L2 (Rect.unit (s := S1024x2304) ![0, n] S1024x256.size inb2).toLoadRect)⟩ : View.Piece (Elt Ideal) S2048x2304 .f32) :: L) y
      = if tileOf y < k + 1 then O y + gain x0 x1 x2 y else O y := by
  by_cases hy : y ∈ (Rect.unit (s := S2048x2304) ![m, n] S512x256.size inb').set
  · obtain ⟨x, rfl⟩ : ∃ x : S512x256.Idx, (Rect.unit (s := S2048x2304) ![m, n] S512x256.size inb').emb x = y :=
      (Rect.unit (s := S2048x2304) ![m, n] S512x256.size inb').exists_idx_of_mem hy
    have ht := tileOf_emb m n hm hn inb' x
    have e := View.canon_cons_emb (Val := Elt Ideal) (e := .f32) (Rect.unit (s := S2048x2304) ![m, n] S512x256.size inb')
      (tile (a8.view.readCov L (Rect.unit (s := S2048x2304) ![m, n] S512x256.size inb).toLoadRect)
          (a9.view.readCov L1 (Rect.unit (s := S2048x1024) ![m, 0] S512x1024.size inb1).toLoadRect)
          (a10.view.readCov L2 (Rect.unit (s := S1024x2304) ![0, n] S1024x256.size inb2).toLoadRect)) L x
    rw [if_pos (by omega)]
    refine e.trans (tile_piece O x0 x1 x2 a9 a10 L1 L2 hL1 hL2 m n inb1 inb2 inb' _ (fun z => ?_) x)
    have hz := tileOf_emb m n hm hn inb' z
    rw [View.readCov_eq_canon']
    show View.canon L ((Rect.unit (s := S2048x2304) ![m, n] S512x256.size inb').emb z) = _
    rw [hL, if_neg (by omega)]
  · refine (canon_off (Rect.unit (s := S2048x2304) ![m, n] S512x256.size inb')
      (tile (a8.view.readCov L (Rect.unit (s := S2048x2304) ![m, n] S512x256.size inb).toLoadRect)
          (a9.view.readCov L1 (Rect.unit (s := S2048x1024) ![m, 0] S512x1024.size inb1).toLoadRect)
          (a10.view.readCov L2 (Rect.unit (s := S1024x2304) ![0, n] S1024x256.size inb2).toLoadRect)) L y hy).trans ((hL y).trans ?_)
    have hne : tileOf y ≠ k := by
      intro h
      apply hy
      rw [Rect.mem_set_unit]
      have h0 : (y 0 : ℕ) < 2048 := (y 0).isLt
      have h1 : (y 1 : ℕ) < 2304 := (y 1).isLt
      have hm' : m + 512 ≤ 2048 := inb' 0
      have hn' : n + 256 ≤ 2304 := inb' 1
      unfold tileOf at h
      intro a
      match a with
      | ⟨0, _⟩ => show m ≤ (y 0 : ℕ) ∧ (y 0 : ℕ) < m + 512; omega
      | ⟨1, _⟩ => show n ≤ (y 1 : ℕ) ∧ (y 1 : ℕ) < n + 256; omega
    by_cases hlt : tileOf y < k
    · rw [if_pos hlt, if_pos (by omega)]
    · rw [if_neg hlt, if_neg (by omega)]

end Cert.KernelIdeal.Point

end
-- ==== Proof.Tiles.lean ====
/-
  THE TILES OF THE ACCUMULATOR: the kernel's thirty-six copies of "a tile plus a product of tiles" are one function, and a
  tile read off an accumulator with known contents ends with its part of those contents plus `gain`.
-/
module

public import proofs.«01_k».proof.Proof.Point

@[expose] public section

noncomputable section

namespace Cert.KernelIdeal.Tiles

open Idealize.ShloMosaic Cert.KernelIdeal Cert.KernelIdeal.Gen Cert.KernelIdeal.Block Cert.KernelIdeal.Point

theorem tile_0 (a : Vec Ideal S512x256 .f32) (x : Vec Ideal S512x1024 .bf16) (d : Vec Ideal S1024x256 .bf16) : k0_pay69 (F := Ideal) a x d = tile a x d := rfl
theorem tile_1 (a : Vec Ideal S512x256 .f32) (x : Vec Ideal S512x1024 .bf16) (d : Vec Ideal S1024x256 .bf16) : k0_pay70 (F := Ideal) a x d = tile a x d := rfl
theorem tile_2 (a : Vec Ideal S512x256 .f32) (x : Vec Ideal S512x1024 .bf16) (d : Vec Ideal S1024x256 .bf16) : k0_pay71 (F := Ideal) a x d = tile a x d := rfl
theorem tile_3 (a : Vec Ideal S512x256 .f32) (x : Vec Ideal S512x1024 .bf16) (d : Vec Ideal S1024x256 .bf16) : k0_pay73 (F := Ideal) a (k0_pay72 x d) = tile a x d := rfl
theorem tile_4 (a : Vec Ideal S512x256 .f32) (x : Vec Ideal S512x1024 .bf16) (d : Vec Ideal S1024x256 .bf16) : k0_pay74 (F := Ideal) a x d = tile a x d := rfl
theorem tile_5 (a : Vec Ideal S512x256 .f32) (x : Vec Ideal S512x1024 .bf16) (d : Vec Ideal S1024x256 .bf16) : k0_pay75 (F := Ideal) a x d = tile a x d := rfl
theorem tile_6 (a : Vec Ideal S512x256 .f32) (x : Vec Ideal S512x1024 .bf16) (d : Vec Ideal S1024x256 .bf16) : k0_pay76 (F := Ideal) a x d = tile a x d := rfl
theorem tile_7 (a : Vec Ideal S512x256 .f32) (x : Vec Ideal S512x1024 .bf16) (d : Vec Ideal S1024x256 .bf16) : k0_pay77 (F := Ideal) a x d = tile a x d := rfl
theorem tile_8 (a : Vec Ideal S512x256 .f32) (x : Vec Ideal S512x1024 .bf16) (d : Vec Ideal S1024x256 .bf16) : k0_pay78 (F := Ideal) a x d = tile a x d := rfl
theorem tile_9 (a : Vec Ideal S512x256 .f32) (x : Vec Ideal S512x1024 .bf16) (d : Vec Ideal S1024x256 .bf16) : k0_pay79 (F := Ideal) a x d = tile a x d := rfl
theorem tile_10 (a : Vec Ideal S512x256 .f32) (x : Vec Ideal S512x1024 .bf16) (d : Vec Ideal S1024x256 .bf16) : k0_pay80 (F := Ideal) a x d = tile a x d := rfl
theorem tile_11 (a : Vec Ideal S512x256 .f32) (x : Vec Ideal S512x1024 .bf16) (d : Vec Ideal S1024x256 .bf16) : k0_pay81 (F := Ideal) a x d = tile a x d := rfl
theorem tile_12 (a : Vec Ideal S512x256 .f32) (x : Vec Ideal S512x1024 .bf16) (d : Vec Ideal S1024x256 .bf16) : k0_pay82 (F := Ideal) a x d = tile a x d := rfl
theorem tile_13 (a : Vec Ideal S512x256 .f32) (x : Vec Ideal S512x1024 .bf16) (d : Vec Ideal S1024x256 .bf16) : k0_pay84 (F := Ideal) a (k0_pay83 x d) = tile a x d := rfl
theorem tile_14 (a : Vec Ideal S512x256 .f32) (x : Vec Ideal S512x1024 .bf16) (d : Vec Ideal S1024x256 .bf16) : k0_pay85 (F := Ideal) a x d = tile a x d := rfl
theorem tile_15 (a : Vec Ideal S512x256 .f32) (x : Vec Ideal S512x1024 .bf16) (d : Vec Ideal S1024x256 .bf16) : k0_pay86 (F := Ideal) a x d = tile a x d := rfl
theorem tile_16 (a : Vec Ideal S512x256 .f32) (x : Vec Ideal S512x1024 .bf16) (d : Vec Ideal S1024x256 .bf16) : k0_pay87 (F := Ideal) a x d = tile a x d := rfl
theorem tile_17 (a : Vec Ideal S512x256 .f32) (x : Vec Ideal S512x1024 .bf16) (d : Vec Ideal S1024x256 .bf16) : k0_pay88 (F := Ideal) a x d = tile a x d := rfl
theorem tile_18 (a : Vec Ideal S512x256 .f32) (x : Vec Ideal S512x1024 .bf16) (d : Vec Ideal S1024x256 .bf16) : k0_pay89 (F := Ideal) a x d = tile a x d := rfl
theorem tile_19 (a : Vec Ideal S512x256 .f32) (x : Vec Ideal S512x1024 .bf16) (d : Vec Ideal S1024x256 .bf16) : k0_pay90 (F := Ideal) a x d = tile a x d := rfl
theorem tile_20 (a : Vec Ideal S512x256 .f32) (x : Vec Ideal S512x1024 .bf16) (d : Vec Ideal S1024x256 .bf16) : k0_pay91 (F := Ideal) a x d = tile a x d := rfl
theorem tile_21 (a : Vec Ideal S512x256 .f32) (x : Vec Ideal S512x1024 .bf16) (d : Vec Ideal S1024x256 .bf16) : k0_pay92 (F := Ideal) a x d = tile a x d := rfl
theorem tile_22 (a : Vec Ideal S512x256 .f32) (x : Vec Ideal S512x1024 .bf16) (d : Vec Ideal S1024x256 .bf16) : k0_pay93 (F := Ideal) a x d = tile a x d := rfl
theorem tile_23 (a : Vec Ideal S512x256 .f32) (x : Vec Ideal S512x1024 .bf16) (d : Vec Ideal S1024x256 .bf16) : k0_pay95 (F := Ideal) a (k0_pay94 x d) = tile a x d := rfl
theorem tile_24 (a : Vec Ideal S512x256 .f32) (x : Vec Ideal S512x1024 .bf16) (d : Vec Ideal S1024x256 .bf16) : k0_pay96 (F := Ideal) a x d = tile a x d := rfl
theorem tile_25 (a : Vec Ideal S512x256 .f32) (x : Vec Ideal S512x1024 .bf16) (d : Vec Ideal S1024x256 .bf16) : k0_pay97 (F := Ideal) a x d = tile a x d := rfl
theorem tile_26 (a : Vec Ideal S512x256 .f32) (x : Vec Ideal S512x1024 .bf16) (d : Vec Ideal S1024x256 .bf16) : k0_pay98 (F := Ideal) a x d = tile a x d := rfl
theorem tile_27 (a : Vec Ideal S512x256 .f32) (x : Vec Ideal S512x1024 .bf16) (d : Vec Ideal S1024x256 .bf16) : k0_pay99 (F := Ideal) a x d = tile a x d := rfl
theorem tile_28 (a : Vec Ideal S512x256 .f32) (x : Vec Ideal S512x1024 .bf16) (d : Vec Ideal S1024x256 .bf16) : k0_pay100 (F := Ideal) a x d = tile a x d := rfl
theorem tile_29 (a : Vec Ideal S512x256 .f32) (x : Vec Ideal S512x1024 .bf16) (d : Vec Ideal S1024x256 .bf16) : k0_pay101 (F := Ideal) a x d = tile a x d := rfl
theorem tile_30 (a : Vec Ideal S512x256 .f32) (x : Vec Ideal S512x1024 .bf16) (d : Vec Ideal S1024x256 .bf16) : k0_pay102 (F := Ideal) a x d = tile a x d := rfl
theorem tile_31 (a : Vec Ideal S512x256 .f32) (x : Vec Ideal S512x1024 .bf16) (d : Vec Ideal S1024x256 .bf16) : k0_pay103 (F := Ideal) a x d = tile a x d := rfl
theorem tile_32 (a : Vec Ideal S512x256 .f32) (x : Vec Ideal S512x1024 .bf16) (d : Vec Ideal S1024x256 .bf16) : k0_pay104 (F := Ideal) a x d = tile a x d := rfl
theorem tile_33 (a : Vec Ideal S512x256 .f32) (x : Vec Ideal S512x1024 .bf16) (d : Vec Ideal S1024x256 .bf16) : k0_pay106 (F := Ideal) a (k0_pay105 x d) = tile a x d := rfl
theorem tile_34 (a : Vec Ideal S512x256 .f32) (x : Vec Ideal S512x1024 .bf16) (d : Vec Ideal S1024x256 .bf16) : k0_pay107 (F := Ideal) a x d = tile a x d := rfl
theorem tile_35 (a : Vec Ideal S512x256 .f32) (x : Vec Ideal S512x1024 .bf16) (d : Vec Ideal S1024x256 .bf16) : k0_pay1 (F := Ideal) a x d (constant S512x256 .f32 0#32) = tile a x d := rfl

/-- The accumulator with contents `xs` after one more point. -/
def acc (xs : Vec Ideal S2048x2304 .f32) (x0 : Vec Ideal S1024x2048 .fp8e4m3) (x1 : Vec Ideal S8x2048 .f32) (x2 : Vec Ideal S1024x2304 .bf16) :
    Vec Ideal S2048x2304 .f32 := fun y => xs y + gain x0 x1 x2 y

/-- A tile read off the accumulator ends with its part of `acc`. -/
theorem tile_at (xs : Vec Ideal S2048x2304 .f32)
    (x0 : Vec Ideal S1024x2048 .fp8e4m3) (x1 : Vec Ideal S8x2048 .f32) (x2 : Vec Ideal S1024x2304 .bf16)
    (a8 : Memref sig .tc .vmem S2048x2304 .f32) (h8 : a8.IsWhole)
    (a9 : Memref sig .tc .vmem S2048x1024 .bf16) (a10 : Memref sig .tc .vmem S1024x2304 .bf16)
    (L1 : List (View.Piece (Elt Ideal) S2048x1024 .bf16)) (L2 : List (View.Piece (Elt Ideal) S1024x2304 .bf16))
    (hL1 : ∀ y, View.canon L1 y = xAt x0 x1 y) (hL2 : ∀ y, View.canon L2 y = dyAt x2 y)
    (m n : ℕ)
    (inb1 : ∀ a : Fin 2, (![m, 0] : Fin 2 → ℕ) a + S512x1024.size a ≤ S2048x1024.size a)
    (inb2 : ∀ a : Fin 2, (![0, n] : Fin 2 → ℕ) a + S1024x256.size a ≤ S1024x2304.size a)
    (inb inb' : ∀ a : Fin 2, (![m, n] : Fin 2 → ℕ) a + S512x256.size a ≤ S2048x2304.size a) (x : S512x256.Idx) :
    tile (View.readAt (Elt Ideal) a8.view (Rect.unit (s := S2048x2304) ![m, n] S512x256.size inb).toLoadRect (h8.unread xs))
        (a9.view.readCov L1 (Rect.unit (s := S2048x1024) ![m, 0] S512x1024.size inb1).toLoadRect)
        (a10.view.readCov L2 (Rect.unit (s := S1024x2304) ![0, n] S1024x256.size inb2).toLoadRect) x
      = acc xs x0 x1 x2 ((Rect.unit (s := S2048x2304) ![m, n] S512x256.size inb').emb x) :=
  tile_piece xs x0 x1 x2 a9 a10 L1 L2 hL1 hL2 m n inb1 inb2 inb' _ (fun z => by
    rw [View.readAt_eq_ld, h8.read_unread]; rfl) x

end Cert.KernelIdeal.Tiles

end
-- ==== Proof.RunA.lean ====
/-
  THE RUN OF THE BODY AT THE FIRST POINT: what its stores leave, as functions of the point's blocks.
-/
module

public import proofs.«01_k».proof.Proof.KernelFrame
public import proofs.«01_k».proof.Proof.Tiles

@[expose] public section

set_option maxHeartbeats 1000000

noncomputable section

namespace Cert.KernelIdeal.RunA

open Idealize.ShloMosaic Cert.KernelIdeal Cert.KernelIdeal.Gen Cert.KernelIdeal.Block Cert.KernelIdeal.Point Cert.KernelIdeal.Tiles
open Idealize.ShloMosaic.TcCoe Idealize.SL.Sem

/-- The scratch of scaled `x`. -/
theorem xs_eq (c : Dev nD) (arg1 : Memref sig .tc .vmem S1024x2048 .fp8e4m3) (harg1 : arg1.IsWhole) (arg2 : Memref sig .tc .vmem S8x2048 .f32) (harg2 : arg2.IsWhole)
    (x0 : Vec Ideal S1024x2048 .fp8e4m3) (x1 : Vec Ideal S8x2048 .f32) (y : S2048x1024.Idx) :
    View.canon (kernelRun0_A.sl.HS1_8 (F := Ideal) c arg1 harg1 arg2 harg2 x0 x1) y = xAt x0 x1 y := by
  refine View.canon_apply_of_pieces (xAt x0 x1) _ ?_ y (View.cover_of_tiledL (s := S2048x1024) (kernelRun0_A.sl.HS1_8 (F := Ideal) c arg1 harg1 arg2 harg2 x0 x1) S2048x128.size (by sl_kernel_rfl) y)
  unfold kernelRun0_A.sl.HS1_8
  refine List.forall_mem_cons.mpr ⟨fun x => ?_, ?_⟩
  exact (congrFun (rows_7 _ _) x).trans (rows_piece 7 896 rfl 7 rfl arg1 harg1 arg2 harg2 x0 x1 inb_S1024x2048_S128x2048_896_0 inb_S8x2048_S1x2048_7_0 inb_S2048x1024_S2048x128_0_896 x)
  refine List.forall_mem_cons.mpr ⟨fun x => ?_, ?_⟩
  exact (congrFun (rows_6 _ _) x).trans (rows_piece 6 768 rfl 6 rfl arg1 harg1 arg2 harg2 x0 x1 inb_S1024x2048_S128x2048_768_0 inb_S8x2048_S1x2048_6_0 inb_S2048x1024_S2048x128_0_768 x)
  refine List.forall_mem_cons.mpr ⟨fun x => ?_, ?_⟩
  exact (congrFun (rows_5 _ _) x).trans (rows_piece 5 640 rfl 5 rfl arg1 harg1 arg2 harg2 x0 x1 inb_S1024x2048_S128x2048_640_0 inb_S8x2048_S1x2048_5_0 inb_S2048x1024_S2048x128_0_640 x)
  refine List.forall_mem_cons.mpr ⟨fun x => ?_, ?_⟩
  exact (congrFun (rows_4 _ _) x).trans (rows_piece 4 512 rfl 4 rfl arg1 harg1 arg2 harg2 x0 x1 inb_S1024x2048_S128x2048_512_0 inb_S8x2048_S1x2048_4_0 inb_S2048x1024_S2048x128_0_512 x)
  refine List.forall_mem_cons.mpr ⟨fun x => ?_, ?_⟩
  exact (congrFun (rows_3 _ _) x).trans (rows_piece 3 384 rfl 3 rfl arg1 harg1 arg2 harg2 x0 x1 inb_S1024x2048_S128x2048_384_0 inb_S8x2048_S1x2048_3_0 inb_S2048x1024_S2048x128_0_384 x)
  refine List.forall_mem_cons.mpr ⟨fun x => ?_, ?_⟩
  exact (congrFun (rows_2 _ _) x).trans (rows_piece 2 256 rfl 2 rfl arg1 harg1 arg2 harg2 x0 x1 inb_S1024x2048_S128x2048_256_0 inb_S8x2048_S1x2048_2_0 inb_S2048x1024_S2048x128_0_256 x)
  refine List.forall_mem_cons.mpr ⟨fun x => ?_, ?_⟩
  exact (congrFun (rows_1 _ _) x).trans (rows_piece 1 128 rfl 1 rfl arg1 harg1 arg2 harg2 x0 x1 inb_S1024x2048_S128x2048_128_0 inb_S8x2048_S1x2048_1_0 inb_S2048x1024_S2048x128_0_128 x)
  refine List.forall_mem_cons.mpr ⟨fun x => ?_, ?_⟩
  exact (congrFun (rows_0 _ _) x).trans (rows_piece 0 0 rfl 0 rfl arg1 harg1 arg2 harg2 x0 x1 inb_S1024x2048_S128x2048_0_0 inb_S8x2048_S1x2048_0_0 inb_S2048x1024_S2048x128_0_0 x)
  exact fun p hp => absurd hp List.not_mem_nil

/-- The scratch of dequantised `dy`. -/
theorem dy_eq (c : Dev nD) (arg3 : Memref sig .tc .vmem S1024x2304 .bf16) (harg3 : arg3.IsWhole) (x2 : Vec Ideal S1024x2304 .bf16) (y : S1024x2304.Idx) :
    View.canon (kernelRun0_A.sl.HS2_8 (F := Ideal) c arg3 harg3 x2) y = dyAt x2 y := by
  refine View.canon_apply_of_pieces (dyAt x2) _ ?_ y (View.cover_of_tiledL (s := S1024x2304) (kernelRun0_A.sl.HS2_8 (F := Ideal) c arg3 harg3 x2) S128x2304.size (by sl_kernel_rfl) y)
  unfold kernelRun0_A.sl.HS2_8
  refine List.forall_mem_cons.mpr ⟨fun x => ?_, ?_⟩
  exact (congrFun (dequant_7 _) x).trans (dequant_piece 7 896 rfl arg3 harg3 x2 inb_S1024x2304_S128x2304_896_0 inb_S1024x2304_S128x2304_896_0 x)
  refine List.forall_mem_cons.mpr ⟨fun x => ?_, ?_⟩
  exact (congrFun (dequant_6 _) x).trans (dequant_piece 6 768 rfl arg3 harg3 x2 inb_S1024x2304_S128x2304_768_0 inb_S1024x2304_S128x2304_768_0 x)
  refine List.forall_mem_cons.mpr ⟨fun x => ?_, ?_⟩
  exact (congrFun (dequant_5 _) x).trans (dequant_piece 5 640 rfl arg3 harg3 x2 inb_S1024x2304_S128x2304_640_0 inb_S1024x2304_S128x2304_640_0 x)
  refine List.forall_mem_cons.mpr ⟨fun x => ?_, ?_⟩
  exact (congrFun (dequant_4 _) x).trans (dequant_piece 4 512 rfl arg3 harg3 x2 inb_S1024x2304_S128x2304_512_0 inb_S1024x2304_S128x2304_512_0 x)
  refine List.forall_mem_cons.mpr ⟨fun x => ?_, ?_⟩
  exact (congrFun (dequant_3 _) x).trans (dequant_piece 3 384 rfl arg3 harg3 x2 inb_S1024x2304_S128x2304_384_0 inb_S1024x2304_S128x2304_384_0 x)
  refine List.forall_mem_cons.mpr ⟨fun x => ?_, ?_⟩
  exact (congrFun (dequant_2 _) x).trans (dequant_piece 2 256 rfl arg3 harg3 x2 inb_S1024x2304_S128x2304_256_0 inb_S1024x2304_S128x2304_256_0 x)
  refine List.forall_mem_cons.mpr ⟨fun x => ?_, ?_⟩
  exact (congrFun (dequant_1 _) x).trans (dequant_piece 1 128 rfl arg3 harg3 x2 inb_S1024x2304_S128x2304_128_0 inb_S1024x2304_S128x2304_128_0 x)
  refine List.forall_mem_cons.mpr ⟨fun x => ?_, ?_⟩
  exact (congrFun (dequant_0 _) x).trans (dequant_piece 0 0 rfl arg3 harg3 x2 inb_S1024x2304_S128x2304_0_0 inb_S1024x2304_S128x2304_0_0 x)
  exact fun p hp => absurd hp List.not_mem_nil

/-- The codes the point writes. -/
theorem codes_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec Ideal S1024x2048 .fp8e4m3) (x1 : Vec Ideal S8x2048 .f32) (x2 : Vec Ideal S1024x2304 .bf16) (fh0 : HbBuf0 (F := Ideal) c hbM0_0) (fw1 : HbBuf0 (F := Ideal) c hbM0_1) :
    out0_A_3 c i arg1 harg1 arg2 harg2 arg3 harg3 arg6 harg6 arg7 harg7 arg8 harg8 arg9 harg9 arg10 harg10 hc0 hc1 x0 x1 x2 fh0 fw1 = codeAt x2 := by
  unfold out0_A_3
  rw [View.read_writes_eq_canon _ _ _ (fun y => by apply cover0_A_3)]
  funext y
  refine View.canon_apply_of_pieces (Val := Elt Ideal) (e := .fp8e5m2) (codeAt x2) _ ?_ y (by apply cover0_A_3)
  unfold kernelRun0_A
  dsimp only
  refine List.forall_mem_cons.mpr ⟨fun x => ?_, ?_⟩
  exact (congrFun (codes_7 _) x).trans (codes_piece 7 896 rfl arg3 harg3 x2 inb_S1024x2304_S128x2304_896_0 inb_S1024x2304_S128x2304_896_0 x)
  refine List.forall_mem_cons.mpr ⟨fun x => ?_, ?_⟩
  exact (congrFun (codes_6 _) x).trans (codes_piece 6 768 rfl arg3 harg3 x2 inb_S1024x2304_S128x2304_768_0 inb_S1024x2304_S128x2304_768_0 x)
  refine List.forall_mem_cons.mpr ⟨fun x => ?_, ?_⟩
  exact (congrFun (codes_5 _) x).trans (codes_piece 5 640 rfl arg3 harg3 x2 inb_S1024x2304_S128x2304_640_0 inb_S1024x2304_S128x2304_640_0 x)
  refine List.forall_mem_cons.mpr ⟨fun x => ?_, ?_⟩
  exact (congrFun (codes_4 _) x).trans (codes_piece 4 512 rfl arg3 harg3 x2 inb_S1024x2304_S128x2304_512_0 inb_S1024x2304_S128x2304_512_0 x)
  refine List.forall_mem_cons.mpr ⟨fun x => ?_, ?_⟩
  exact (congrFun (codes_3 _) x).trans (codes_piece 3 384 rfl arg3 harg3 x2 inb_S1024x2304_S128x2304_384_0 inb_S1024x2304_S128x2304_384_0 x)
  refine List.forall_mem_cons.mpr ⟨fun x => ?_, ?_⟩
  exact (congrFun (codes_2 _) x).trans (codes_piece 2 256 rfl arg3 harg3 x2 inb_S1024x2304_S128x2304_256_0 inb_S1024x2304_S128x2304_256_0 x)
  refine List.forall_mem_cons.mpr ⟨fun x => ?_, ?_⟩
  exact (congrFun (codes_1 _) x).trans (codes_piece 1 128 rfl arg3 harg3 x2 inb_S1024x2304_S128x2304_128_0 inb_S1024x2304_S128x2304_128_0 x)
  refine List.forall_mem_cons.mpr ⟨fun x => ?_, ?_⟩
  exact (congrFun (codes_0 _) x).trans (codes_piece 0 0 rfl arg3 harg3 x2 inb_S1024x2304_S128x2304_0_0 inb_S1024x2304_S128x2304_0_0 x)
  exact fun p hp => absurd hp List.not_mem_nil

/-- The scales the point writes. -/
theorem scales_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec Ideal S1024x2048 .fp8e4m3) (x1 : Vec Ideal S8x2048 .f32) (x2 : Vec Ideal S1024x2304 .bf16) (fh0 : HbBuf0 (F := Ideal) c hbM0_0) (fw1 : HbBuf0 (F := Ideal) c hbM0_1) :
    out0_A_4 c i arg1 harg1 arg2 harg2 arg3 harg3 arg6 harg6 arg7 harg7 arg8 harg8 arg9 harg9 arg10 harg10 hc0 hc1 x0 x1 x2 fh0 fw1 = scaleAt x2 := by
  unfold out0_A_4
  rw [View.read_writes_eq_canon _ _ _ (fun y => by apply cover0_A_4)]
  funext y
  refine View.canon_apply_of_pieces (Val := Elt Ideal) (e := .f32) (scaleAt x2) _ ?_ y (by apply cover0_A_4)
  unfold kernelRun0_A
  dsimp only
  refine List.forall_mem_cons.mpr ⟨fun x => ?_, ?_⟩
  exact (congrFun (scales_7 _) x).trans (scales_piece 7 896 rfl 7 rfl arg3 harg3 x2 inb_S1024x2304_S128x2304_896_0 inb_S8x2304_S1x2304_7_0 x)
  refine List.forall_mem_cons.mpr ⟨fun x => ?_, ?_⟩
  exact (congrFun (scales_6 _) x).trans (scales_piece 6 768 rfl 6 rfl arg3 harg3 x2 inb_S1024x2304_S128x2304_768_0 inb_S8x2304_S1x2304_6_0 x)
  refine List.forall_mem_cons.mpr ⟨fun x => ?_, ?_⟩
  exact (congrFun (scales_5 _) x).trans (scales_piece 5 640 rfl 5 rfl arg3 harg3 x2 inb_S1024x2304_S128x2304_640_0 inb_S8x2304_S1x2304_5_0 x)
  refine List.forall_mem_cons.mpr ⟨fun x => ?_, ?_⟩
  exact (congrFun (scales_4 _) x).trans (scales_piece 4 512 rfl 4 rfl arg3 harg3 x2 inb_S1024x2304_S128x2304_512_0 inb_S8x2304_S1x2304_4_0 x)
  refine List.forall_mem_cons.mpr ⟨fun x => ?_, ?_⟩
  exact (congrFun (scales_3 _) x).trans (scales_piece 3 384 rfl 3 rfl arg3 harg3 x2 inb_S1024x2304_S128x2304_384_0 inb_S8x2304_S1x2304_3_0 x)
  refine List.forall_mem_cons.mpr ⟨fun x => ?_, ?_⟩
  exact (congrFun (scales_2 _) x).trans (scales_piece 2 256 rfl 2 rfl arg3 harg3 x2 inb_S1024x2304_S128x2304_256_0 inb_S8x2304_S1x2304_2_0 x)
  refine List.forall_mem_cons.mpr ⟨fun x => ?_, ?_⟩
  exact (congrFun (scales_1 _) x).trans (scales_piece 1 128 rfl 1 rfl arg3 harg3 x2 inb_S1024x2304_S128x2304_128_0 inb_S8x2304_S1x2304_1_0 x)
  refine List.forall_mem_cons.mpr ⟨fun x => ?_, ?_⟩
  exact (congrFun (scales_0 _) x).trans (scales_piece 0 0 rfl 0 rfl arg3 harg3 x2 inb_S1024x2304_S128x2304_0_0 inb_S8x2304_S1x2304_0_0 x)
  exact fun p hp => absurd hp List.not_mem_nil

/-- What the first copy brings into the accumulator. -/
def start (c : Dev nD) (fh0 : HbBuf0 (F := Ideal) c hbM0_0) : Vec Ideal S2048x2304 .f32 :=
  View.read (Elt Ideal) (Memref.whole main_arg3).view fh0

/-- The accumulator before the first tile is what was copied into it. -/
theorem start_eq (c : Dev nD) (fh0 : HbBuf0 (F := Ideal) c hbM0_0) (y : S2048x2304.Idx) :
    View.canon [(⟨Rect.whole S2048x2304, kernelRun0_A.sl.dma0 c fh0⟩ : View.Piece (Elt Ideal) S2048x2304 .f32)] y = start c fh0 y := by
  have e := View.canon_cons_emb (Val := Elt Ideal) (e := .f32) (Rect.whole S2048x2304) (kernelRun0_A.sl.dma0 c fh0) [] y
  rw [Rect.emb_whole_apply] at e
  exact e

theorem acc_0 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_2 (F := Ideal) c arg1 harg1 arg2 harg2 arg3 harg3 arg8 arg9 arg10 x0 x1 x2 fh0) y = if tileOf y < 1 then start c fh0 y + gain x0 x1 x2 y else start c fh0 y := by
  unfold kernelRun0_A.sl.HS0_2
  refine (congrArg (fun w => View.canon ((⟨Rect.unit (s := S2048x2304) ![0, 0] S512x256.size inb_S2048x2304_S512x256_0_0, w⟩ : View.Piece (Elt Ideal) S2048x2304 .f32) :: [(⟨Rect.whole S2048x2304, kernelRun0_A.sl.dma0 c fh0⟩ : View.Piece (Elt Ideal) S2048x2304 .f32)]) y) (tile_0 _ _ _)).trans ?_
  exact tile_step (start c fh0) x0 x1 x2 arg8 arg9 arg10 _ _ (xs_eq c arg1 harg1 arg2 harg2 x0 x1) (dy_eq c arg3 harg3 x2) 0 0 0 rfl rfl rfl inb_S2048x1024_S512x1024_0_0 inb_S1024x2304_S1024x256_0_0 inb_S2048x2304_S512x256_0_0 inb_S2048x2304_S512x256_0_0 [(⟨Rect.whole S2048x2304, kernelRun0_A.sl.dma0 c fh0⟩ : View.Piece (Elt Ideal) S2048x2304 .f32)] (fun z => (start_eq c fh0 z).trans (if_neg (Nat.not_lt_zero _)).symm) y

theorem acc_1 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_3 (F := Ideal) c arg1 harg1 arg2 harg2 arg3 harg3 arg8 arg9 arg10 x0 x1 x2 fh0) y = if tileOf y < 2 then start c fh0 y + gain x0 x1 x2 y else start c fh0 y := by
  unfold kernelRun0_A.sl.HS0_3
  refine (congrArg (fun w => View.canon ((⟨Rect.unit (s := S2048x2304) ![512, 0] S512x256.size inb_S2048x2304_S512x256_512_0, w⟩ : View.Piece (Elt Ideal) S2048x2304 .f32) :: (kernelRun0_A.sl.HS0_2 (F := Ideal) c arg1 harg1 arg2 harg2 arg3 harg3 arg8 arg9 arg10 x0 x1 x2 fh0)) y) (tile_1 _ _ _)).trans ?_
  exact tile_step (start c fh0) x0 x1 x2 arg8 arg9 arg10 _ _ (xs_eq c arg1 harg1 arg2 harg2 x0 x1) (dy_eq c arg3 harg3 x2) 1 512 0 rfl rfl rfl inb_S2048x1024_S512x1024_512_0 inb_S1024x2304_S1024x256_0_0 inb_S2048x2304_S512x256_512_0 inb_S2048x2304_S512x256_512_0 (kernelRun0_A.sl.HS0_2 (F := Ideal) c arg1 harg1 arg2 harg2 arg3 harg3 arg8 arg9 arg10 x0 x1 x2 fh0) (acc_0 c arg1 harg1 arg2 harg2 arg3 harg3 arg8 arg9 arg10 x0 x1 x2 fh0) y

theorem acc_2 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_4 (F := Ideal) c arg1 harg1 arg2 harg2 arg3 harg3 arg8 arg9 arg10 x0 x1 x2 fh0) y = if tileOf y < 3 then start c fh0 y + gain x0 x1 x2 y else start c fh0 y := by
  unfold kernelRun0_A.sl.HS0_4
  refine (congrArg (fun w => View.canon ((⟨Rect.unit (s := S2048x2304) ![1024, 0] S512x256.size inb_S2048x2304_S512x256_1024_0, w⟩ : View.Piece (Elt Ideal) S2048x2304 .f32) :: (kernelRun0_A.sl.HS0_3 (F := Ideal) c arg1 harg1 arg2 harg2 arg3 harg3 arg8 arg9 arg10 x0 x1 x2 fh0)) y) (tile_2 _ _ _)).trans ?_
  exact tile_step (start c fh0) x0 x1 x2 arg8 arg9 arg10 _ _ (xs_eq c arg1 harg1 arg2 harg2 x0 x1) (dy_eq c arg3 harg3 x2) 2 1024 0 rfl rfl rfl inb_S2048x1024_S512x1024_1024_0 inb_S1024x2304_S1024x256_0_0 inb_S2048x2304_S512x256_1024_0 inb_S2048x2304_S512x256_1024_0 (kernelRun0_A.sl.HS0_3 (F := Ideal) c arg1 harg1 arg2 harg2 arg3 harg3 arg8 arg9 arg10 x0 x1 x2 fh0) (acc_1 c arg1 harg1 arg2 harg2 arg3 harg3 arg8 arg9 arg10 x0 x1 x2 fh0) y

theorem acc_3 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_5 (F := Ideal) c arg1 harg1 arg2 harg2 arg3 harg3 arg8 arg9 arg10 x0 x1 x2 fh0) y = if tileOf y < 4 then start c fh0 y + gain x0 x1 x2 y else start c fh0 y := by
  unfold kernelRun0_A.sl.HS0_5
  refine (congrArg (fun w => View.canon ((⟨Rect.unit (s := S2048x2304) ![1536, 0] S512x256.size inb_S2048x2304_S512x256_1536_0, w⟩ : View.Piece (Elt Ideal) S2048x2304 .f32) :: (kernelRun0_A.sl.HS0_4 (F := Ideal) c arg1 harg1 arg2 harg2 arg3 harg3 arg8 arg9 arg10 x0 x1 x2 fh0)) y) (tile_3 _ _ _)).trans ?_
  exact tile_step (start c fh0) x0 x1 x2 arg8 arg9 arg10 _ _ (xs_eq c arg1 harg1 arg2 harg2 x0 x1) (dy_eq c arg3 harg3 x2) 3 1536 0 rfl rfl rfl inb_S2048x1024_S512x1024_1536_0 inb_S1024x2304_S1024x256_0_0 inb_S2048x2304_S512x256_1536_0 inb_S2048x2304_S512x256_1536_0 (kernelRun0_A.sl.HS0_4 (F := Ideal) c arg1 harg1 arg2 harg2 arg3 harg3 arg8 arg9 arg10 x0 x1 x2 fh0) (acc_2 c arg1 harg1 arg2 harg2 arg3 harg3 arg8 arg9 arg10 x0 x1 x2 fh0) y

theorem acc_4 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_6 (F := Ideal) c arg1 harg1 arg2 harg2 arg3 harg3 arg8 arg9 arg10 x0 x1 x2 fh0) y = if tileOf y < 5 then start c fh0 y + gain x0 x1 x2 y else start c fh0 y := by
  unfold kernelRun0_A.sl.HS0_6
  refine (congrArg (fun w => View.canon ((⟨Rect.unit (s := S2048x2304) ![0, 256] S512x256.size inb_S2048x2304_S512x256_0_256, w⟩ : View.Piece (Elt Ideal) S2048x2304 .f32) :: (kernelRun0_A.sl.HS0_5 (F := Ideal) c arg1 harg1 arg2 harg2 arg3 harg3 arg8 arg9 arg10 x0 x1 x2 fh0)) y) (tile_4 _ _ _)).trans ?_
  exact tile_step (start c fh0) x0 x1 x2 arg8 arg9 arg10 _ _ (xs_eq c arg1 harg1 arg2 harg2 x0 x1) (dy_eq c arg3 harg3 x2) 4 0 256 rfl rfl rfl inb_S2048x1024_S512x1024_0_0 inb_S1024x2304_S1024x256_0_256 inb_S2048x2304_S512x256_0_256 inb_S2048x2304_S512x256_0_256 (kernelRun0_A.sl.HS0_5 (F := Ideal) c arg1 harg1 arg2 harg2 arg3 harg3 arg8 arg9 arg10 x0 x1 x2 fh0) (acc_3 c arg1 harg1 arg2 harg2 arg3 harg3 arg8 arg9 arg10 x0 x1 x2 fh0) y

theorem acc_5 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_7 (F := Ideal) c arg1 harg1 arg2 harg2 arg3 harg3 arg8 arg9 arg10 x0 x1 x2 fh0) y = if tileOf y < 6 then start c fh0 y + gain x0 x1 x2 y else start c fh0 y := by
  unfold kernelRun0_A.sl.HS0_7
  refine (congrArg (fun w => View.canon ((⟨Rect.unit (s := S2048x2304) ![512, 256] S512x256.size inb_S2048x2304_S512x256_512_256, w⟩ : View.Piece (Elt Ideal) S2048x2304 .f32) :: (kernelRun0_A.sl.HS0_6 (F := Ideal) c arg1 harg1 arg2 harg2 arg3 harg3 arg8 arg9 arg10 x0 x1 x2 fh0)) y) (tile_5 _ _ _)).trans ?_
  exact tile_step (start c fh0) x0 x1 x2 arg8 arg9 arg10 _ _ (xs_eq c arg1 harg1 arg2 harg2 x0 x1) (dy_eq c arg3 harg3 x2) 5 512 256 rfl rfl rfl inb_S2048x1024_S512x1024_512_0 inb_S1024x2304_S1024x256_0_256 inb_S2048x2304_S512x256_512_256 inb_S2048x2304_S512x256_512_256 (kernelRun0_A.sl.HS0_6 (F := Ideal) c arg1 harg1 arg2 harg2 arg3 harg3 arg8 arg9 arg10 x0 x1 x2 fh0) (acc_4 c arg1 harg1 arg2 harg2 arg3 harg3 arg8 arg9 arg10 x0 x1 x2 fh0) y

theorem acc_6 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_8 (F := Ideal) c arg1 harg1 arg2 harg2 arg3 harg3 arg8 arg9 arg10 x0 x1 x2 fh0) y = if tileOf y < 7 then start c fh0 y + gain x0 x1 x2 y else start c fh0 y := by
  unfold kernelRun0_A.sl.HS0_8
  refine (congrArg (fun w => View.canon ((⟨Rect.unit (s := S2048x2304) ![1024, 256] S512x256.size inb_S2048x2304_S512x256_1024_256, w⟩ : View.Piece (Elt Ideal) S2048x2304 .f32) :: (kernelRun0_A.sl.HS0_7 (F := Ideal) c arg1 harg1 arg2 harg2 arg3 harg3 arg8 arg9 arg10 x0 x1 x2 fh0)) y) (tile_6 _ _ _)).trans ?_
  exact tile_step (start c fh0) x0 x1 x2 arg8 arg9 arg10 _ _ (xs_eq c arg1 harg1 arg2 harg2 x0 x1) (dy_eq c arg3 harg3 x2) 6 1024 256 rfl rfl rfl inb_S2048x1024_S512x1024_1024_0 inb_S1024x2304_S1024x256_0_256 inb_S2048x2304_S512x256_1024_256 inb_S2048x2304_S512x256_1024_256 (kernelRun0_A.sl.HS0_7 (F := Ideal) c arg1 harg1 arg2 harg2 arg3 harg3 arg8 arg9 arg10 x0 x1 x2 fh0) (acc_5 c arg1 harg1 arg2 harg2 arg3 harg3 arg8 arg9 arg10 x0 x1 x2 fh0) y

theorem acc_7 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_9 (F := Ideal) c arg1 harg1 arg2 harg2 arg3 harg3 arg8 arg9 arg10 x0 x1 x2 fh0) y = if tileOf y < 8 then start c fh0 y + gain x0 x1 x2 y else start c fh0 y := by
  unfold kernelRun0_A.sl.HS0_9
  refine (congrArg (fun w => View.canon ((⟨Rect.unit (s := S2048x2304) ![1536, 256] S512x256.size inb_S2048x2304_S512x256_1536_256, w⟩ : View.Piece (Elt Ideal) S2048x2304 .f32) :: (kernelRun0_A.sl.HS0_8 (F := Ideal) c arg1 harg1 arg2 harg2 arg3 harg3 arg8 arg9 arg10 x0 x1 x2 fh0)) y) (tile_7 _ _ _)).trans ?_
  exact tile_step (start c fh0) x0 x1 x2 arg8 arg9 arg10 _ _ (xs_eq c arg1 harg1 arg2 harg2 x0 x1) (dy_eq c arg3 harg3 x2) 7 1536 256 rfl rfl rfl inb_S2048x1024_S512x1024_1536_0 inb_S1024x2304_S1024x256_0_256 inb_S2048x2304_S512x256_1536_256 inb_S2048x2304_S512x256_1536_256 (kernelRun0_A.sl.HS0_8 (F := Ideal) c arg1 harg1 arg2 harg2 arg3 harg3 arg8 arg9 arg10 x0 x1 x2 fh0) (acc_6 c arg1 harg1 arg2 harg2 arg3 harg3 arg8 arg9 arg10 x0 x1 x2 fh0) y

theorem acc_8 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_10 (F := Ideal) c arg1 harg1 arg2 harg2 arg3 harg3 arg8 arg9 arg10 x0 x1 x2 fh0) y = if tileOf y < 9 then start c fh0 y + gain x0 x1 x2 y else start c fh0 y := by
  unfold kernelRun0_A.sl.HS0_10
  refine (congrArg (fun w => View.canon ((⟨Rect.unit (s := S2048x2304) ![0, 512] S512x256.size inb_S2048x2304_S512x256_0_512, w⟩ : View.Piece (Elt Ideal) S2048x2304 .f32) :: (kernelRun0_A.sl.HS0_9 (F := Ideal) c arg1 harg1 arg2 harg2 arg3 harg3 arg8 arg9 arg10 x0 x1 x2 fh0)) y) (tile_8 _ _ _)).trans ?_
  exact tile_step (start c fh0) x0 x1 x2 arg8 arg9 arg10 _ _ (xs_eq c arg1 harg1 arg2 harg2 x0 x1) (dy_eq c arg3 harg3 x2) 8 0 512 rfl rfl rfl inb_S2048x1024_S512x1024_0_0 inb_S1024x2304_S1024x256_0_512 inb_S2048x2304_S512x256_0_512 inb_S2048x2304_S512x256_0_512 (kernelRun0_A.sl.HS0_9 (F := Ideal) c arg1 harg1 arg2 harg2 arg3 harg3 arg8 arg9 arg10 x0 x1 x2 fh0) (acc_7 c arg1 harg1 arg2 harg2 arg3 harg3 arg8 arg9 arg10 x0 x1 x2 fh0) y

theorem acc_9 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_11 (F := Ideal) c arg1 harg1 arg2 harg2 arg3 harg3 arg8 arg9 arg10 x0 x1 x2 fh0) y = if tileOf y < 10 then start c fh0 y + gain x0 x1 x2 y else start c fh0 y := by
  unfold kernelRun0_A.sl.HS0_11
  refine (congrArg (fun w => View.canon ((⟨Rect.unit (s := S2048x2304) ![512, 512] S512x256.size inb_S2048x2304_S512x256_512_512, w⟩ : View.Piece (Elt Ideal) S2048x2304 .f32) :: (kernelRun0_A.sl.HS0_10 (F := Ideal) c arg1 harg1 arg2 harg2 arg3 harg3 arg8 arg9 arg10 x0 x1 x2 fh0)) y) (tile_9 _ _ _)).trans ?_
  exact tile_step (start c fh0) x0 x1 x2 arg8 arg9 arg10 _ _ (xs_eq c arg1 harg1 arg2 harg2 x0 x1) (dy_eq c arg3 harg3 x2) 9 512 512 rfl rfl rfl inb_S2048x1024_S512x1024_512_0 inb_S1024x2304_S1024x256_0_512 inb_S2048x2304_S512x256_512_512 inb_S2048x2304_S512x256_512_512 (kernelRun0_A.sl.HS0_10 (F := Ideal) c arg1 harg1 arg2 harg2 arg3 harg3 arg8 arg9 arg10 x0 x1 x2 fh0) (acc_8 c arg1 harg1 arg2 harg2 arg3 harg3 arg8 arg9 arg10 x0 x1 x2 fh0) y

theorem acc_10 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_12 (F := Ideal) c arg1 harg1 arg2 harg2 arg3 harg3 arg8 arg9 arg10 x0 x1 x2 fh0) y = if tileOf y < 11 then start c fh0 y + gain x0 x1 x2 y else start c fh0 y := by
  unfold kernelRun0_A.sl.HS0_12
  refine (congrArg (fun w => View.canon ((⟨Rect.unit (s := S2048x2304) ![1024, 512] S512x256.size inb_S2048x2304_S512x256_1024_512, w⟩ : View.Piece (Elt Ideal) S2048x2304 .f32) :: (kernelRun0_A.sl.HS0_11 (F := Ideal) c arg1 harg1 arg2 harg2 arg3 harg3 arg8 arg9 arg10 x0 x1 x2 fh0)) y) (tile_10 _ _ _)).trans ?_
  exact tile_step (start c fh0) x0 x1 x2 arg8 arg9 arg10 _ _ (xs_eq c arg1 harg1 arg2 harg2 x0 x1) (dy_eq c arg3 harg3 x2) 10 1024 512 rfl rfl rfl inb_S2048x1024_S512x1024_1024_0 inb_S1024x2304_S1024x256_0_512 inb_S2048x2304_S512x256_1024_512 inb_S2048x2304_S512x256_1024_512 (kernelRun0_A.sl.HS0_11 (F := Ideal) c arg1 harg1 arg2 harg2 arg3 harg3 arg8 arg9 arg10 x0 x1 x2 fh0) (acc_9 c arg1 harg1 arg2 harg2 arg3 harg3 arg8 arg9 arg10 x0 x1 x2 fh0) y

theorem acc_11 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_13 (F := Ideal) c arg1 harg1 arg2 harg2 arg3 harg3 arg8 arg9 arg10 x0 x1 x2 fh0) y = if tileOf y < 12 then start c fh0 y + gain x0 x1 x2 y else start c fh0 y := by
  unfold kernelRun0_A.sl.HS0_13
  refine (congrArg (fun w => View.canon ((⟨Rect.unit (s := S2048x2304) ![1536, 512] S512x256.size inb_S2048x2304_S512x256_1536_512, w⟩ : View.Piece (Elt Ideal) S2048x2304 .f32) :: (kernelRun0_A.sl.HS0_12 (F := Ideal) c arg1 harg1 arg2 harg2 arg3 harg3 arg8 arg9 arg10 x0 x1 x2 fh0)) y) (tile_11 _ _ _)).trans ?_
  exact tile_step (start c fh0) x0 x1 x2 arg8 arg9 arg10 _ _ (xs_eq c arg1 harg1 arg2 harg2 x0 x1) (dy_eq c arg3 harg3 x2) 11 1536 512 rfl rfl rfl inb_S2048x1024_S512x1024_1536_0 inb_S1024x2304_S1024x256_0_512 inb_S2048x2304_S512x256_1536_512 inb_S2048x2304_S512x256_1536_512 (kernelRun0_A.sl.HS0_12 (F := Ideal) c arg1 harg1 arg2 harg2 arg3 harg3 arg8 arg9 arg10 x0 x1 x2 fh0) (acc_10 c arg1 harg1 arg2 harg2 arg3 harg3 arg8 arg9 arg10 x0 x1 x2 fh0) y

theorem acc_12 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_14 (F := Ideal) c arg1 harg1 arg2 harg2 arg3 harg3 arg8 arg9 arg10 x0 x1 x2 fh0) y = if tileOf y < 13 then start c fh0 y + gain x0 x1 x2 y else start c fh0 y := by
  unfold kernelRun0_A.sl.HS0_14
  refine (congrArg (fun w => View.canon ((⟨Rect.unit (s := S2048x2304) ![0, 768] S512x256.size inb_S2048x2304_S512x256_0_768, w⟩ : View.Piece (Elt Ideal) S2048x2304 .f32) :: (kernelRun0_A.sl.HS0_13 (F := Ideal) c arg1 harg1 arg2 harg2 arg3 harg3 arg8 arg9 arg10 x0 x1 x2 fh0)) y) (tile_12 _ _ _)).trans ?_
  exact tile_step (start c fh0) x0 x1 x2 arg8 arg9 arg10 _ _ (xs_eq c arg1 harg1 arg2 harg2 x0 x1) (dy_eq c arg3 harg3 x2) 12 0 768 rfl rfl rfl inb_S2048x1024_S512x1024_0_0 inb_S1024x2304_S1024x256_0_768 inb_S2048x2304_S512x256_0_768 inb_S2048x2304_S512x256_0_768 (kernelRun0_A.sl.HS0_13 (F := Ideal) c arg1 harg1 arg2 harg2 arg3 harg3 arg8 arg9 arg10 x0 x1 x2 fh0) (acc_11 c arg1 harg1 arg2 harg2 arg3 harg3 arg8 arg9 arg10 x0 x1 x2 fh0) y

theorem acc_13 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_15 (F := Ideal) c arg1 harg1 arg2 harg2 arg3 harg3 arg8 arg9 arg10 x0 x1 x2 fh0) y = if tileOf y < 14 then start c fh0 y + gain x0 x1 x2 y else start c fh0 y := by
  unfold kernelRun0_A.sl.HS0_15
  refine (congrArg (fun w => View.canon ((⟨Rect.unit (s := S2048x2304) ![512, 768] S512x256.size inb_S2048x2304_S512x256_512_768, w⟩ : View.Piece (Elt Ideal) S2048x2304 .f32) :: (kernelRun0_A.sl.HS0_14 (F := Ideal) c arg1 harg1 arg2 harg2 arg3 harg3 arg8 arg9 arg10 x0 x1 x2 fh0)) y) (tile_13 _ _ _)).trans ?_
  exact tile_step (start c fh0) x0 x1 x2 arg8 arg9 arg10 _ _ (xs_eq c arg1 harg1 arg2 harg2 x0 x1) (dy_eq c arg3 harg3 x2) 13 512 768 rfl rfl rfl inb_S2048x1024_S512x1024_512_0 inb_S1024x2304_S1024x256_0_768 inb_S2048x2304_S512x256_512_768 inb_S2048x2304_S512x256_512_768 (kernelRun0_A.sl.HS0_14 (F := Ideal) c arg1 harg1 arg2 harg2 arg3 harg3 arg8 arg9 arg10 x0 x1 x2 fh0) (acc_12 c arg1 harg1 arg2 harg2 arg3 harg3 arg8 arg9 arg10 x0 x1 x2 fh0) y

theorem acc_14 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_16 (F := Ideal) c arg1 harg1 arg2 harg2 arg3 harg3 arg8 arg9 arg10 x0 x1 x2 fh0) y = if tileOf y < 15 then start c fh0 y + gain x0 x1 x2 y else start c fh0 y := by
  unfold kernelRun0_A.sl.HS0_16
  refine (congrArg (fun w => View.canon ((⟨Rect.unit (s := S2048x2304) ![1024, 768] S512x256.size inb_S2048x2304_S512x256_1024_768, w⟩ : View.Piece (Elt Ideal) S2048x2304 .f32) :: (kernelRun0_A.sl.HS0_15 (F := Ideal) c arg1 harg1 arg2 harg2 arg3 harg3 arg8 arg9 arg10 x0 x1 x2 fh0)) y) (tile_14 _ _ _)).trans ?_
  exact tile_step (start c fh0) x0 x1 x2 arg8 arg9 arg10 _ _ (xs_eq c arg1 harg1 arg2 harg2 x0 x1) (dy_eq c arg3 harg3 x2) 14 1024 768 rfl rfl rfl inb_S2048x1024_S512x1024_1024_0 inb_S1024x2304_S1024x256_0_768 inb_S2048x2304_S512x256_1024_768 inb_S2048x2304_S512x256_1024_768 (kernelRun0_A.sl.HS0_15 (F := Ideal) c arg1 harg1 arg2 harg2 arg3 harg3 arg8 arg9 arg10 x0 x1 x2 fh0) (acc_13 c arg1 harg1 arg2 harg2 arg3 harg3 arg8 arg9 arg10 x0 x1 x2 fh0) y

theorem acc_15 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_17 (F := Ideal) c arg1 harg1 arg2 harg2 arg3 harg3 arg8 arg9 arg10 x0 x1 x2 fh0) y = if tileOf y < 16 then start c fh0 y + gain x0 x1 x2 y else start c fh0 y := by
  unfold kernelRun0_A.sl.HS0_17
  refine (congrArg (fun w => View.canon ((⟨Rect.unit (s := S2048x2304) ![1536, 768] S512x256.size inb_S2048x2304_S512x256_1536_768, w⟩ : View.Piece (Elt Ideal) S2048x2304 .f32) :: (kernelRun0_A.sl.HS0_16 (F := Ideal) c arg1 harg1 arg2 harg2 arg3 harg3 arg8 arg9 arg10 x0 x1 x2 fh0)) y) (tile_15 _ _ _)).trans ?_
  exact tile_step (start c fh0) x0 x1 x2 arg8 arg9 arg10 _ _ (xs_eq c arg1 harg1 arg2 harg2 x0 x1) (dy_eq c arg3 harg3 x2) 15 1536 768 rfl rfl rfl inb_S2048x1024_S512x1024_1536_0 inb_S1024x2304_S1024x256_0_768 inb_S2048x2304_S512x256_1536_768 inb_S2048x2304_S512x256_1536_768 (kernelRun0_A.sl.HS0_16 (F := Ideal) c arg1 harg1 arg2 harg2 arg3 harg3 arg8 arg9 arg10 x0 x1 x2 fh0) (acc_14 c arg1 harg1 arg2 harg2 arg3 harg3 arg8 arg9 arg10 x0 x1 x2 fh0) y

theorem acc_16 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_18 (F := Ideal) c arg1 harg1 arg2 harg2 arg3 harg3 arg8 arg9 arg10 x0 x1 x2 fh0) y = if tileOf y < 17 then start c fh0 y + gain x0 x1 x2 y else start c fh0 y := by
  unfold kernelRun0_A.sl.HS0_18
  refine (congrArg (fun w => View.canon ((⟨Rect.unit (s := S2048x2304) ![0, 1024] S512x256.size inb_S2048x2304_S512x256_0_1024, w⟩ : View.Piece (Elt Ideal) S2048x2304 .f32) :: (kernelRun0_A.sl.HS0_17 (F := Ideal) c arg1 harg1 arg2 harg2 arg3 harg3 arg8 arg9 arg10 x0 x1 x2 fh0)) y) (tile_16 _ _ _)).trans ?_
  exact tile_step (start c fh0) x0 x1 x2 arg8 arg9 arg10 _ _ (xs_eq c arg1 harg1 arg2 harg2 x0 x1) (dy_eq c arg3 harg3 x2) 16 0 1024 rfl rfl rfl inb_S2048x1024_S512x1024_0_0 inb_S1024x2304_S1024x256_0_1024 inb_S2048x2304_S512x256_0_1024 inb_S2048x2304_S512x256_0_1024 (kernelRun0_A.sl.HS0_17 (F := Ideal) c arg1 harg1 arg2 harg2 arg3 harg3 arg8 arg9 arg10 x0 x1 x2 fh0) (acc_15 c arg1 harg1 arg2 harg2 arg3 harg3 arg8 arg9 arg10 x0 x1 x2 fh0) y

theorem acc_17 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_19 (F := Ideal) c arg1 harg1 arg2 harg2 arg3 harg3 arg8 arg9 arg10 x0 x1 x2 fh0) y = if tileOf y < 18 then start c fh0 y + gain x0 x1 x2 y else start c fh0 y := by
  unfold kernelRun0_A.sl.HS0_19
  refine (congrArg (fun w => View.canon ((⟨Rect.unit (s := S2048x2304) ![512, 1024] S512x256.size inb_S2048x2304_S512x256_512_1024, w⟩ : View.Piece (Elt Ideal) S2048x2304 .f32) :: (kernelRun0_A.sl.HS0_18 (F := Ideal) c arg1 harg1 arg2 harg2 arg3 harg3 arg8 arg9 arg10 x0 x1 x2 fh0)) y) (tile_17 _ _ _)).trans ?_
  exact tile_step (start c fh0) x0 x1 x2 arg8 arg9 arg10 _ _ (xs_eq c arg1 harg1 arg2 harg2 x0 x1) (dy_eq c arg3 harg3 x2) 17 512 1024 rfl rfl rfl inb_S2048x1024_S512x1024_512_0 inb_S1024x2304_S1024x256_0_1024 inb_S2048x2304_S512x256_512_1024 inb_S2048x2304_S512x256_512_1024 (kernelRun0_A.sl.HS0_18 (F := Ideal) c arg1 harg1 arg2 harg2 arg3 harg3 arg8 arg9 arg10 x0 x1 x2 fh0) (acc_16 c arg1 harg1 arg2 harg2 arg3 harg3 arg8 arg9 arg10 x0 x1 x2 fh0) y

theorem acc_18 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_20 (F := Ideal) c arg1 harg1 arg2 harg2 arg3 harg3 arg8 arg9 arg10 x0 x1 x2 fh0) y = if tileOf y < 19 then start c fh0 y + gain x0 x1 x2 y else start c fh0 y := by
  unfold kernelRun0_A.sl.HS0_20
  refine (congrArg (fun w => View.canon ((⟨Rect.unit (s := S2048x2304) ![1024, 1024] S512x256.size inb_S2048x2304_S512x256_1024_1024, w⟩ : View.Piece (Elt Ideal) S2048x2304 .f32) :: (kernelRun0_A.sl.HS0_19 (F := Ideal) c arg1 harg1 arg2 harg2 arg3 harg3 arg8 arg9 arg10 x0 x1 x2 fh0)) y) (tile_18 _ _ _)).trans ?_
  exact tile_step (start c fh0) x0 x1 x2 arg8 arg9 arg10 _ _ (xs_eq c arg1 harg1 arg2 harg2 x0 x1) (dy_eq c arg3 harg3 x2) 18 1024 1024 rfl rfl rfl inb_S2048x1024_S512x1024_1024_0 inb_S1024x2304_S1024x256_0_1024 inb_S2048x2304_S512x256_1024_1024 inb_S2048x2304_S512x256_1024_1024 (kernelRun0_A.sl.HS0_19 (F := Ideal) c arg1 harg1 arg2 harg2 arg3 harg3 arg8 arg9 arg10 x0 x1 x2 fh0) (acc_17 c arg1 harg1 arg2 harg2 arg3 harg3 arg8 arg9 arg10 x0 x1 x2 fh0) y

theorem acc_19 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_21 (F := Ideal) c arg1 harg1 arg2 harg2 arg3 harg3 arg8 arg9 arg10 x0 x1 x2 fh0) y = if tileOf y < 20 then start c fh0 y + gain x0 x1 x2 y else start c fh0 y := by
  unfold kernelRun0_A.sl.HS0_21
  refine (congrArg (fun w => View.canon ((⟨Rect.unit (s := S2048x2304) ![1536, 1024] S512x256.size inb_S2048x2304_S512x256_1536_1024, w⟩ : View.Piece (Elt Ideal) S2048x2304 .f32) :: (kernelRun0_A.sl.HS0_20 (F := Ideal) c arg1 harg1 arg2 harg2 arg3 harg3 arg8 arg9 arg10 x0 x1 x2 fh0)) y) (tile_19 _ _ _)).trans ?_
  exact tile_step (start c fh0) x0 x1 x2 arg8 arg9 arg10 _ _ (xs_eq c arg1 harg1 arg2 harg2 x0 x1) (dy_eq c arg3 harg3 x2) 19 1536 1024 rfl rfl rfl inb_S2048x1024_S512x1024_1536_0 inb_S1024x2304_S1024x256_0_1024 inb_S2048x2304_S512x256_1536_1024 inb_S2048x2304_S512x256_1536_1024 (kernelRun0_A.sl.HS0_20 (F := Ideal) c arg1 harg1 arg2 harg2 arg3 harg3 arg8 arg9 arg10 x0 x1 x2 fh0) (acc_18 c arg1 harg1 arg2 harg2 arg3 harg3 arg8 arg9 arg10 x0 x1 x2 fh0) y

theorem acc_20 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_22 (F := Ideal) c arg1 harg1 arg2 harg2 arg3 harg3 arg8 arg9 arg10 x0 x1 x2 fh0) y = if tileOf y < 21 then start c fh0 y + gain x0 x1 x2 y else start c fh0 y := by
  unfold kernelRun0_A.sl.HS0_22
  refine (congrArg (fun w => View.canon ((⟨Rect.unit (s := S2048x2304) ![0, 1280] S512x256.size inb_S2048x2304_S512x256_0_1280, w⟩ : View.Piece (Elt Ideal) S2048x2304 .f32) :: (kernelRun0_A.sl.HS0_21 (F := Ideal) c arg1 harg1 arg2 harg2 arg3 harg3 arg8 arg9 arg10 x0 x1 x2 fh0)) y) (tile_20 _ _ _)).trans ?_
  exact tile_step (start c fh0) x0 x1 x2 arg8 arg9 arg10 _ _ (xs_eq c arg1 harg1 arg2 harg2 x0 x1) (dy_eq c arg3 harg3 x2) 20 0 1280 rfl rfl rfl inb_S2048x1024_S512x1024_0_0 inb_S1024x2304_S1024x256_0_1280 inb_S2048x2304_S512x256_0_1280 inb_S2048x2304_S512x256_0_1280 (kernelRun0_A.sl.HS0_21 (F := Ideal) c arg1 harg1 arg2 harg2 arg3 harg3 arg8 arg9 arg10 x0 x1 x2 fh0) (acc_19 c arg1 harg1 arg2 harg2 arg3 harg3 arg8 arg9 arg10 x0 x1 x2 fh0) y

theorem acc_21 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_23 (F := Ideal) c arg1 harg1 arg2 harg2 arg3 harg3 arg8 arg9 arg10 x0 x1 x2 fh0) y = if tileOf y < 22 then start c fh0 y + gain x0 x1 x2 y else start c fh0 y := by
  unfold kernelRun0_A.sl.HS0_23
  refine (congrArg (fun w => View.canon ((⟨Rect.unit (s := S2048x2304) ![512, 1280] S512x256.size inb_S2048x2304_S512x256_512_1280, w⟩ : View.Piece (Elt Ideal) S2048x2304 .f32) :: (kernelRun0_A.sl.HS0_22 (F := Ideal) c arg1 harg1 arg2 harg2 arg3 harg3 arg8 arg9 arg10 x0 x1 x2 fh0)) y) (tile_21 _ _ _)).trans ?_
  exact tile_step (start c fh0) x0 x1 x2 arg8 arg9 arg10 _ _ (xs_eq c arg1 harg1 arg2 harg2 x0 x1) (dy_eq c arg3 harg3 x2) 21 512 1280 rfl rfl rfl inb_S2048x1024_S512x1024_512_0 inb_S1024x2304_S1024x256_0_1280 inb_S2048x2304_S512x256_512_1280 inb_S2048x2304_S512x256_512_1280 (kernelRun0_A.sl.HS0_22 (F := Ideal) c arg1 harg1 arg2 harg2 arg3 harg3 arg8 arg9 arg10 x0 x1 x2 fh0) (acc_20 c arg1 harg1 arg2 harg2 arg3 harg3 arg8 arg9 arg10 x0 x1 x2 fh0) y

theorem acc_22 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_24 (F := Ideal) c arg1 harg1 arg2 harg2 arg3 harg3 arg8 arg9 arg10 x0 x1 x2 fh0) y = if tileOf y < 23 then start c fh0 y + gain x0 x1 x2 y else start c fh0 y := by
  unfold kernelRun0_A.sl.HS0_24
  refine (congrArg (fun w => View.canon ((⟨Rect.unit (s := S2048x2304) ![1024, 1280] S512x256.size inb_S2048x2304_S512x256_1024_1280, w⟩ : View.Piece (Elt Ideal) S2048x2304 .f32) :: (kernelRun0_A.sl.HS0_23 (F := Ideal) c arg1 harg1 arg2 harg2 arg3 harg3 arg8 arg9 arg10 x0 x1 x2 fh0)) y) (tile_22 _ _ _)).trans ?_
  exact tile_step (start c fh0) x0 x1 x2 arg8 arg9 arg10 _ _ (xs_eq c arg1 harg1 arg2 harg2 x0 x1) (dy_eq c arg3 harg3 x2) 22 1024 1280 rfl rfl rfl inb_S2048x1024_S512x1024_1024_0 inb_S1024x2304_S1024x256_0_1280 inb_S2048x2304_S512x256_1024_1280 inb_S2048x2304_S512x256_1024_1280 (kernelRun0_A.sl.HS0_23 (F := Ideal) c arg1 harg1 arg2 harg2 arg3 harg3 arg8 arg9 arg10 x0 x1 x2 fh0) (acc_21 c arg1 harg1 arg2 harg2 arg3 harg3 arg8 arg9 arg10 x0 x1 x2 fh0) y

theorem acc_23 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_25 (F := Ideal) c arg1 harg1 arg2 harg2 arg3 harg3 arg8 arg9 arg10 x0 x1 x2 fh0) y = if tileOf y < 24 then start c fh0 y + gain x0 x1 x2 y else start c fh0 y := by
  unfold kernelRun0_A.sl.HS0_25
  refine (congrArg (fun w => View.canon ((⟨Rect.unit (s := S2048x2304) ![1536, 1280] S512x256.size inb_S2048x2304_S512x256_1536_1280, w⟩ : View.Piece (Elt Ideal) S2048x2304 .f32) :: (kernelRun0_A.sl.HS0_24 (F := Ideal) c arg1 harg1 arg2 harg2 arg3 harg3 arg8 arg9 arg10 x0 x1 x2 fh0)) y) (tile_23 _ _ _)).trans ?_
  exact tile_step (start c fh0) x0 x1 x2 arg8 arg9 arg10 _ _ (xs_eq c arg1 harg1 arg2 harg2 x0 x1) (dy_eq c arg3 harg3 x2) 23 1536 1280 rfl rfl rfl inb_S2048x1024_S512x1024_1536_0 inb_S1024x2304_S1024x256_0_1280 inb_S2048x2304_S512x256_1536_1280 inb_S2048x2304_S512x256_1536_1280 (kernelRun0_A.sl.HS0_24 (F := Ideal) c arg1 harg1 arg2 harg2 arg3 harg3 arg8 arg9 arg10 x0 x1 x2 fh0) (acc_22 c arg1 harg1 arg2 harg2 arg3 harg3 arg8 arg9 arg10 x0 x1 x2 fh0) y

theorem acc_24 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_26 (F := Ideal) c arg1 harg1 arg2 harg2 arg3 harg3 arg8 arg9 arg10 x0 x1 x2 fh0) y = if tileOf y < 25 then start c fh0 y + gain x0 x1 x2 y else start c fh0 y := by
  unfold kernelRun0_A.sl.HS0_26
  refine (congrArg (fun w => View.canon ((⟨Rect.unit (s := S2048x2304) ![0, 1536] S512x256.size inb_S2048x2304_S512x256_0_1536, w⟩ : View.Piece (Elt Ideal) S2048x2304 .f32) :: (kernelRun0_A.sl.HS0_25 (F := Ideal) c arg1 harg1 arg2 harg2 arg3 harg3 arg8 arg9 arg10 x0 x1 x2 fh0)) y) (tile_24 _ _ _)).trans ?_
  exact tile_step (start c fh0) x0 x1 x2 arg8 arg9 arg10 _ _ (xs_eq c arg1 harg1 arg2 harg2 x0 x1) (dy_eq c arg3 harg3 x2) 24 0 1536 rfl rfl rfl inb_S2048x1024_S512x1024_0_0 inb_S1024x2304_S1024x256_0_1536 inb_S2048x2304_S512x256_0_1536 inb_S2048x2304_S512x256_0_1536 (kernelRun0_A.sl.HS0_25 (F := Ideal) c arg1 harg1 arg2 harg2 arg3 harg3 arg8 arg9 arg10 x0 x1 x2 fh0) (acc_23 c arg1 harg1 arg2 harg2 arg3 harg3 arg8 arg9 arg10 x0 x1 x2 fh0) y

theorem acc_25 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_27 (F := Ideal) c arg1 harg1 arg2 harg2 arg3 harg3 arg8 arg9 arg10 x0 x1 x2 fh0) y = if tileOf y < 26 then start c fh0 y + gain x0 x1 x2 y else start c fh0 y := by
  unfold kernelRun0_A.sl.HS0_27
  refine (congrArg (fun w => View.canon ((⟨Rect.unit (s := S2048x2304) ![512, 1536] S512x256.size inb_S2048x2304_S512x256_512_1536, w⟩ : View.Piece (Elt Ideal) S2048x2304 .f32) :: (kernelRun0_A.sl.HS0_26 (F := Ideal) c arg1 harg1 arg2 harg2 arg3 harg3 arg8 arg9 arg10 x0 x1 x2 fh0)) y) (tile_25 _ _ _)).trans ?_
  exact tile_step (start c fh0) x0 x1 x2 arg8 arg9 arg10 _ _ (xs_eq c arg1 harg1 arg2 harg2 x0 x1) (dy_eq c arg3 harg3 x2) 25 512 1536 rfl rfl rfl inb_S2048x1024_S512x1024_512_0 inb_S1024x2304_S1024x256_0_1536 inb_S2048x2304_S512x256_512_1536 inb_S2048x2304_S512x256_512_1536 (kernelRun0_A.sl.HS0_26 (F := Ideal) c arg1 harg1 arg2 harg2 arg3 harg3 arg8 arg9 arg10 x0 x1 x2 fh0) (acc_24 c arg1 harg1 arg2 harg2 arg3 harg3 arg8 arg9 arg10 x0 x1 x2 fh0) y

theorem acc_26 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_28 (F := Ideal) c arg1 harg1 arg2 harg2 arg3 harg3 arg8 arg9 arg10 x0 x1 x2 fh0) y = if tileOf y < 27 then start c fh0 y + gain x0 x1 x2 y else start c fh0 y := by
  unfold kernelRun0_A.sl.HS0_28
  refine (congrArg (fun w => View.canon ((⟨Rect.unit (s := S2048x2304) ![1024, 1536] S512x256.size inb_S2048x2304_S512x256_1024_1536, w⟩ : View.Piece (Elt Ideal) S2048x2304 .f32) :: (kernelRun0_A.sl.HS0_27 (F := Ideal) c arg1 harg1 arg2 harg2 arg3 harg3 arg8 arg9 arg10 x0 x1 x2 fh0)) y) (tile_26 _ _ _)).trans ?_
  exact tile_step (start c fh0) x0 x1 x2 arg8 arg9 arg10 _ _ (xs_eq c arg1 harg1 arg2 harg2 x0 x1) (dy_eq c arg3 harg3 x2) 26 1024 1536 rfl rfl rfl inb_S2048x1024_S512x1024_1024_0 inb_S1024x2304_S1024x256_0_1536 inb_S2048x2304_S512x256_1024_1536 inb_S2048x2304_S512x256_1024_1536 (kernelRun0_A.sl.HS0_27 (F := Ideal) c arg1 harg1 arg2 harg2 arg3 harg3 arg8 arg9 arg10 x0 x1 x2 fh0) (acc_25 c arg1 harg1 arg2 harg2 arg3 harg3 arg8 arg9 arg10 x0 x1 x2 fh0) y

theorem acc_27 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_29 (F := Ideal) c arg1 harg1 arg2 harg2 arg3 harg3 arg8 arg9 arg10 x0 x1 x2 fh0) y = if tileOf y < 28 then start c fh0 y + gain x0 x1 x2 y else start c fh0 y := by
  unfold kernelRun0_A.sl.HS0_29
  refine (congrArg (fun w => View.canon ((⟨Rect.unit (s := S2048x2304) ![1536, 1536] S512x256.size inb_S2048x2304_S512x256_1536_1536, w⟩ : View.Piece (Elt Ideal) S2048x2304 .f32) :: (kernelRun0_A.sl.HS0_28 (F := Ideal) c arg1 harg1 arg2 harg2 arg3 harg3 arg8 arg9 arg10 x0 x1 x2 fh0)) y) (tile_27 _ _ _)).trans ?_
  exact tile_step (start c fh0) x0 x1 x2 arg8 arg9 arg10 _ _ (xs_eq c arg1 harg1 arg2 harg2 x0 x1) (dy_eq c arg3 harg3 x2) 27 1536 1536 rfl rfl rfl inb_S2048x1024_S512x1024_1536_0 inb_S1024x2304_S1024x256_0_1536 inb_S2048x2304_S512x256_1536_1536 inb_S2048x2304_S512x256_1536_1536 (kernelRun0_A.sl.HS0_28 (F := Ideal) c arg1 harg1 arg2 harg2 arg3 harg3 arg8 arg9 arg10 x0 x1 x2 fh0) (acc_26 c arg1 harg1 arg2 harg2 arg3 harg3 arg8 arg9 arg10 x0 x1 x2 fh0) y

theorem acc_28 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_30 (F := Ideal) c arg1 harg1 arg2 harg2 arg3 harg3 arg8 arg9 arg10 x0 x1 x2 fh0) y = if tileOf y < 29 then start c fh0 y + gain x0 x1 x2 y else start c fh0 y := by
  unfold kernelRun0_A.sl.HS0_30
  refine (congrArg (fun w => View.canon ((⟨Rect.unit (s := S2048x2304) ![0, 1792] S512x256.size inb_S2048x2304_S512x256_0_1792, w⟩ : View.Piece (Elt Ideal) S2048x2304 .f32) :: (kernelRun0_A.sl.HS0_29 (F := Ideal) c arg1 harg1 arg2 harg2 arg3 harg3 arg8 arg9 arg10 x0 x1 x2 fh0)) y) (tile_28 _ _ _)).trans ?_
  exact tile_step (start c fh0) x0 x1 x2 arg8 arg9 arg10 _ _ (xs_eq c arg1 harg1 arg2 harg2 x0 x1) (dy_eq c arg3 harg3 x2) 28 0 1792 rfl rfl rfl inb_S2048x1024_S512x1024_0_0 inb_S1024x2304_S1024x256_0_1792 inb_S2048x2304_S512x256_0_1792 inb_S2048x2304_S512x256_0_1792 (kernelRun0_A.sl.HS0_29 (F := Ideal) c arg1 harg1 arg2 harg2 arg3 harg3 arg8 arg9 arg10 x0 x1 x2 fh0) (acc_27 c arg1 harg1 arg2 harg2 arg3 harg3 arg8 arg9 arg10 x0 x1 x2 fh0) y

theorem acc_29 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_31 (F := Ideal) c arg1 harg1 arg2 harg2 arg3 harg3 arg8 arg9 arg10 x0 x1 x2 fh0) y = if tileOf y < 30 then start c fh0 y + gain x0 x1 x2 y else start c fh0 y := by
  unfold kernelRun0_A.sl.HS0_31
  refine (congrArg (fun w => View.canon ((⟨Rect.unit (s := S2048x2304) ![512, 1792] S512x256.size inb_S2048x2304_S512x256_512_1792, w⟩ : View.Piece (Elt Ideal) S2048x2304 .f32) :: (kernelRun0_A.sl.HS0_30 (F := Ideal) c arg1 harg1 arg2 harg2 arg3 harg3 arg8 arg9 arg10 x0 x1 x2 fh0)) y) (tile_29 _ _ _)).trans ?_
  exact tile_step (start c fh0) x0 x1 x2 arg8 arg9 arg10 _ _ (xs_eq c arg1 harg1 arg2 harg2 x0 x1) (dy_eq c arg3 harg3 x2) 29 512 1792 rfl rfl rfl inb_S2048x1024_S512x1024_512_0 inb_S1024x2304_S1024x256_0_1792 inb_S2048x2304_S512x256_512_1792 inb_S2048x2304_S512x256_512_1792 (kernelRun0_A.sl.HS0_30 (F := Ideal) c arg1 harg1 arg2 harg2 arg3 harg3 arg8 arg9 arg10 x0 x1 x2 fh0) (acc_28 c arg1 harg1 arg2 harg2 arg3 harg3 arg8 arg9 arg10 x0 x1 x2 fh0) y

theorem acc_30 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_32 (F := Ideal) c arg1 harg1 arg2 harg2 arg3 harg3 arg8 arg9 arg10 x0 x1 x2 fh0) y = if tileOf y < 31 then start c fh0 y + gain x0 x1 x2 y else start c fh0 y := by
  unfold kernelRun0_A.sl.HS0_32
  refine (congrArg (fun w => View.canon ((⟨Rect.unit (s := S2048x2304) ![1024, 1792] S512x256.size inb_S2048x2304_S512x256_1024_1792, w⟩ : View.Piece (Elt Ideal) S2048x2304 .f32) :: (kernelRun0_A.sl.HS0_31 (F := Ideal) c arg1 harg1 arg2 harg2 arg3 harg3 arg8 arg9 arg10 x0 x1 x2 fh0)) y) (tile_30 _ _ _)).trans ?_
  exact tile_step (start c fh0) x0 x1 x2 arg8 arg9 arg10 _ _ (xs_eq c arg1 harg1 arg2 harg2 x0 x1) (dy_eq c arg3 harg3 x2) 30 1024 1792 rfl rfl rfl inb_S2048x1024_S512x1024_1024_0 inb_S1024x2304_S1024x256_0_1792 inb_S2048x2304_S512x256_1024_1792 inb_S2048x2304_S512x256_1024_1792 (kernelRun0_A.sl.HS0_31 (F := Ideal) c arg1 harg1 arg2 harg2 arg3 harg3 arg8 arg9 arg10 x0 x1 x2 fh0) (acc_29 c arg1 harg1 arg2 harg2 arg3 harg3 arg8 arg9 arg10 x0 x1 x2 fh0) y

theorem acc_31 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_33 (F := Ideal) c arg1 harg1 arg2 harg2 arg3 harg3 arg8 arg9 arg10 x0 x1 x2 fh0) y = if tileOf y < 32 then start c fh0 y + gain x0 x1 x2 y else start c fh0 y := by
  unfold kernelRun0_A.sl.HS0_33
  refine (congrArg (fun w => View.canon ((⟨Rect.unit (s := S2048x2304) ![1536, 1792] S512x256.size inb_S2048x2304_S512x256_1536_1792, w⟩ : View.Piece (Elt Ideal) S2048x2304 .f32) :: (kernelRun0_A.sl.HS0_32 (F := Ideal) c arg1 harg1 arg2 harg2 arg3 harg3 arg8 arg9 arg10 x0 x1 x2 fh0)) y) (tile_31 _ _ _)).trans ?_
  exact tile_step (start c fh0) x0 x1 x2 arg8 arg9 arg10 _ _ (xs_eq c arg1 harg1 arg2 harg2 x0 x1) (dy_eq c arg3 harg3 x2) 31 1536 1792 rfl rfl rfl inb_S2048x1024_S512x1024_1536_0 inb_S1024x2304_S1024x256_0_1792 inb_S2048x2304_S512x256_1536_1792 inb_S2048x2304_S512x256_1536_1792 (kernelRun0_A.sl.HS0_32 (F := Ideal) c arg1 harg1 arg2 harg2 arg3 harg3 arg8 arg9 arg10 x0 x1 x2 fh0) (acc_30 c arg1 harg1 arg2 harg2 arg3 harg3 arg8 arg9 arg10 x0 x1 x2 fh0) y

theorem acc_32 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_34 (F := Ideal) c arg1 harg1 arg2 harg2 arg3 harg3 arg8 arg9 arg10 x0 x1 x2 fh0) y = if tileOf y < 33 then start c fh0 y + gain x0 x1 x2 y else start c fh0 y := by
  unfold kernelRun0_A.sl.HS0_34
  refine (congrArg (fun w => View.canon ((⟨Rect.unit (s := S2048x2304) ![0, 2048] S512x256.size inb_S2048x2304_S512x256_0_2048, w⟩ : View.Piece (Elt Ideal) S2048x2304 .f32) :: (kernelRun0_A.sl.HS0_33 (F := Ideal) c arg1 harg1 arg2 harg2 arg3 harg3 arg8 arg9 arg10 x0 x1 x2 fh0)) y) (tile_32 _ _ _)).trans ?_
  exact tile_step (start c fh0) x0 x1 x2 arg8 arg9 arg10 _ _ (xs_eq c arg1 harg1 arg2 harg2 x0 x1) (dy_eq c arg3 harg3 x2) 32 0 2048 rfl rfl rfl inb_S2048x1024_S512x1024_0_0 inb_S1024x2304_S1024x256_0_2048 inb_S2048x2304_S512x256_0_2048 inb_S2048x2304_S512x256_0_2048 (kernelRun0_A.sl.HS0_33 (F := Ideal) c arg1 harg1 arg2 harg2 arg3 harg3 arg8 arg9 arg10 x0 x1 x2 fh0) (acc_31 c arg1 harg1 arg2 harg2 arg3 harg3 arg8 arg9 arg10 x0 x1 x2 fh0) y

theorem acc_33 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_35 (F := Ideal) c arg1 harg1 arg2 harg2 arg3 harg3 arg8 arg9 arg10 x0 x1 x2 fh0) y = if tileOf y < 34 then start c fh0 y + gain x0 x1 x2 y else start c fh0 y := by
  unfold kernelRun0_A.sl.HS0_35
  refine (congrArg (fun w => View.canon ((⟨Rect.unit (s := S2048x2304) ![512, 2048] S512x256.size inb_S2048x2304_S512x256_512_2048, w⟩ : View.Piece (Elt Ideal) S2048x2304 .f32) :: (kernelRun0_A.sl.HS0_34 (F := Ideal) c arg1 harg1 arg2 harg2 arg3 harg3 arg8 arg9 arg10 x0 x1 x2 fh0)) y) (tile_33 _ _ _)).trans ?_
  exact tile_step (start c fh0) x0 x1 x2 arg8 arg9 arg10 _ _ (xs_eq c arg1 harg1 arg2 harg2 x0 x1) (dy_eq c arg3 harg3 x2) 33 512 2048 rfl rfl rfl inb_S2048x1024_S512x1024_512_0 inb_S1024x2304_S1024x256_0_2048 inb_S2048x2304_S512x256_512_2048 inb_S2048x2304_S512x256_512_2048 (kernelRun0_A.sl.HS0_34 (F := Ideal) c arg1 harg1 arg2 harg2 arg3 harg3 arg8 arg9 arg10 x0 x1 x2 fh0) (acc_32 c arg1 harg1 arg2 harg2 arg3 harg3 arg8 arg9 arg10 x0 x1 x2 fh0) y

theorem acc_34 (c : Dev nD) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg8 : Memref sig .tc .vmem S2048x2304 .f32) (arg9 : Memref sig .tc .vmem S2048x1024 .bf16) (arg10 : Memref sig .tc .vmem S1024x2304 .bf16)
    (x0 : Vec Ideal S1024x2048 .fp8e4m3) (x1 : Vec Ideal S8x2048 .f32) (x2 : Vec Ideal S1024x2304 .bf16) (fh0 : HbBuf0 (F := Ideal) c hbM0_0) (y : S2048x2304.Idx) :
    View.canon (kernelRun0_A.sl.HS0_36 (F := Ideal) c arg1 harg1 arg2 harg2 arg3 harg3 arg8 arg9 arg10 x0 x1 x2 fh0) y = if tileOf y < 35 then start c fh0 y + gain x0 x1 x2 y else start c fh0 y := by
  unfold kernelRun0_A.sl.HS0_36
  refine (congrArg (fun w => View.canon ((⟨Rect.unit (s := S2048x2304) ![1024, 2048] S512x256.size inb_S2048x2304_S512x256_1024_2048, w⟩ : View.Piece (Elt Ideal) S2048x2304 .f32) :: (kernelRun0_A.sl.HS0_35 (F := Ideal) c arg1 harg1 arg2 harg2 arg3 harg3 arg8 arg9 arg10 x0 x1 x2 fh0)) y) (tile_34 _ _ _)).trans ?_
  exact tile_step (start c fh0) x0 x1 x2 arg8 arg9 arg10 _ _ (xs_eq c arg1 harg1 arg2 harg2 x0 x1) (dy_eq c arg3 harg3 x2) 34 1024 2048 rfl rfl rfl inb_S2048x1024_S512x1024_1024_0 inb_S1024x2304_S1024x256_0_2048 inb_S2048x2304_S512x256_1024_2048 inb_S2048x2304_S512x256_1024_2048 (kernelRun0_A.sl.HS0_35 (F := Ideal) c arg1 harg1 arg2 harg2 arg3 harg3 arg8 arg9 arg10 x0 x1 x2 fh0) (acc_33 c arg1 harg1 arg2 harg2 arg3 harg3 arg8 arg9 arg10 x0 x1 x2 fh0) y

/-- The accumulator after the point. -/
theorem acc_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : cond0_0 i) (hc1 : ¬cond0_1 i)
    (x0 : Vec Ideal S1024x2048 .fp8e4m3) (x1 : Vec Ideal S8x2048 .f32) (x2 : Vec Ideal S1024x2304 .bf16) (fh0 : HbBuf0 (F := Ideal) c hbM0_0) (fw1 : HbBuf0 (F := Ideal) c hbM0_1) :
    sout0_A_0 c i arg1 harg1 arg2 harg2 arg3 harg3 arg6 harg6 arg7 harg7 arg8 harg8 arg9 harg9 arg10 harg10 hc0 hc1 x0 x1 x2 fh0 fw1 = acc (start c fh0) x0 x1 x2 := by
  unfold sout0_A_0
  rw [View.read_writes_eq_canon _ _ _ (fun y => by apply scover0_A_0)]
  funext y
  have hlt : tileOf y < 36 := by
    have h0 : (y 0 : ℕ) < 2048 := (y 0).isLt
    have h1 : (y 1 : ℕ) < 2304 := (y 1).isLt
    unfold tileOf
    omega
  refine Eq.trans ?_ (if_pos hlt : (if tileOf y < 36 then start c fh0 y + gain x0 x1 x2 y else start c fh0 y) = _)
  unfold kernelRun0_A
  dsimp only
  refine (congrArg (fun w => View.canon ((⟨Rect.unit (s := S2048x2304) ![1536, 2048] S512x256.size inb_S2048x2304_S512x256_1536_2048, w⟩ : View.Piece (Elt Ideal) S2048x2304 .f32) :: (kernelRun0_A.sl.HS0_36 (F := Ideal) c arg1 harg1 arg2 harg2 arg3 harg3 arg8 arg9 arg10 x0 x1 x2 fh0)) y) (tile_35 _ _ _)).trans ?_
  exact tile_step (start c fh0) x0 x1 x2 arg8 arg9 arg10 _ _ (xs_eq c arg1 harg1 arg2 harg2 x0 x1) (dy_eq c arg3 harg3 x2) 35 1536 2048 rfl rfl rfl inb_S2048x1024_S512x1024_1536_0 inb_S1024x2304_S1024x256_0_2048 inb_S2048x2304_S512x256_1536_2048 inb_S2048x2304_S512x256_1536_2048 (kernelRun0_A.sl.HS0_36 (F := Ideal) c arg1 harg1 arg2 harg2 arg3 harg3 arg8 arg9 arg10 x0 x1 x2 fh0) (acc_34 c arg1 harg1 arg2 harg2 arg3 harg3 arg8 arg9 arg10 x0 x1 x2 fh0) y

end Cert.KernelIdeal.RunA

end
-- ==== Proof.RunB.lean ====
/-
  THE RUN OF THE BODY AT A MIDDLE POINT: what its stores leave, as functions of the point's blocks.
-/
module

public import proofs.«01_k».proof.Proof.KernelFrame
public import proofs.«01_k».proof.Proof.Tiles

@[expose] public section

set_option maxHeartbeats 1000000

noncomputable section

namespace Cert.KernelIdeal.RunB

open Idealize.ShloMosaic Cert.KernelIdeal Cert.KernelIdeal.Gen Cert.KernelIdeal.Block Cert.KernelIdeal.Point Cert.KernelIdeal.Tiles
open Idealize.ShloMosaic.TcCoe Idealize.SL.Sem

/-- The scratch of scaled `x`. -/
theorem xs_eq (c : Dev nD) (arg1 : Memref sig .tc .vmem S1024x2048 .fp8e4m3) (harg1 : arg1.IsWhole) (arg2 : Memref sig .tc .vmem S8x2048 .f32) (harg2 : arg2.IsWhole)
    (x0 : Vec Ideal S1024x2048 .fp8e4m3) (x1 : Vec Ideal S8x2048 .f32) (y : S2048x1024.Idx) :
    View.canon (kernelRun0_B.sl.HS1_8 (F := Ideal) c arg1 harg1 arg2 harg2 x0 x1) y = xAt x0 x1 y := by
  refine View.canon_apply_of_pieces (xAt x0 x1) _ ?_ y (View.cover_of_tiledL (s := S2048x1024) (kernelRun0_B.sl.HS1_8 (F := Ideal) c arg1 harg1 arg2 harg2 x0 x1) S2048x128.size (by sl_kernel_rfl) y)
  unfold kernelRun0_B.sl.HS1_8
  refine List.forall_mem_cons.mpr ⟨fun x => ?_, ?_⟩
  exact (congrFun (rows_7 _ _) x).trans (rows_piece 7 896 rfl 7 rfl arg1 harg1 arg2 harg2 x0 x1 inb_S1024x2048_S128x2048_896_0 inb_S8x2048_S1x2048_7_0 inb_S2048x1024_S2048x128_0_896 x)
  refine List.forall_mem_cons.mpr ⟨fun x => ?_, ?_⟩
  exact (congrFun (rows_6 _ _) x).trans (rows_piece 6 768 rfl 6 rfl arg1 harg1 arg2 harg2 x0 x1 inb_S1024x2048_S128x2048_768_0 inb_S8x2048_S1x2048_6_0 inb_S2048x1024_S2048x128_0_768 x)
  refine List.forall_mem_cons.mpr ⟨fun x => ?_, ?_⟩
  exact (congrFun (rows_5 _ _) x).trans (rows_piece 5 640 rfl 5 rfl arg1 harg1 arg2 harg2 x0 x1 inb_S1024x2048_S128x2048_640_0 inb_S8x2048_S1x2048_5_0 inb_S2048x1024_S2048x128_0_640 x)
  refine List.forall_mem_cons.mpr ⟨fun x => ?_, ?_⟩
  exact (congrFun (rows_4 _ _) x).trans (rows_piece 4 512 rfl 4 rfl arg1 harg1 arg2 harg2 x0 x1 inb_S1024x2048_S128x2048_512_0 inb_S8x2048_S1x2048_4_0 inb_S2048x1024_S2048x128_0_512 x)
  refine List.forall_mem_cons.mpr ⟨fun x => ?_, ?_⟩
  exact (congrFun (rows_3 _ _) x).trans (rows_piece 3 384 rfl 3 rfl arg1 harg1 arg2 harg2 x0 x1 inb_S1024x2048_S128x2048_384_0 inb_S8x2048_S1x2048_3_0 inb_S2048x1024_S2048x128_0_384 x)
  refine List.forall_mem_cons.mpr ⟨fun x => ?_, ?_⟩
  exact (congrFun (rows_2 _ _) x).trans (rows_piece 2 256 rfl 2 rfl arg1 harg1 arg2 harg2 x0 x1 inb_S1024x2048_S128x2048_256_0 inb_S8x2048_S1x2048_2_0 inb_S2048x1024_S2048x128_0_256 x)
  refine List.forall_mem_cons.mpr ⟨fun x => ?_, ?_⟩
  exact (congrFun (rows_1 _ _) x).trans (rows_piece 1 128 rfl 1 rfl arg1 harg1 arg2 harg2 x0 x1 inb_S1024x2048_S128x2048_128_0 inb_S8x2048_S1x2048_1_0 inb_S2048x1024_S2048x128_0_128 x)
  refine List.forall_mem_cons.mpr ⟨fun x => ?_, ?_⟩
  exact (congrFun (rows_0 _ _) x).trans (rows_piece 0 0 rfl 0 rfl arg1 harg1 arg2 harg2 x0 x1 inb_S1024x2048_S128x2048_0_0 inb_S8x2048_S1x2048_0_0 inb_S2048x1024_S2048x128_0_0 x)
  exact fun p hp => absurd hp List.not_mem_nil

/-- The scratch of dequantised `dy`. -/
theorem dy_eq (c : Dev nD) (arg3 : Memref sig .tc .vmem S1024x2304 .bf16) (harg3 : arg3.IsWhole) (x2 : Vec Ideal S1024x2304 .bf16) (y : S1024x2304.Idx) :
    View.canon (kernelRun0_B.sl.HS2_8 (F := Ideal) c arg3 harg3 x2) y = dyAt x2 y := by
  refine View.canon_apply_of_pieces (dyAt x2) _ ?_ y (View.cover_of_tiledL (s := S1024x2304) (kernelRun0_B.sl.HS2_8 (F := Ideal) c arg3 harg3 x2) S128x2304.size (by sl_kernel_rfl) y)
  unfold kernelRun0_B.sl.HS2_8
  refine List.forall_mem_cons.mpr ⟨fun x => ?_, ?_⟩
  exact (congrFun (dequant_7 _) x).trans (dequant_piece 7 896 rfl arg3 harg3 x2 inb_S1024x2304_S128x2304_896_0 inb_S1024x2304_S128x2304_896_0 x)
  refine List.forall_mem_cons.mpr ⟨fun x => ?_, ?_⟩
  exact (congrFun (dequant_6 _) x).trans (dequant_piece 6 768 rfl arg3 harg3 x2 inb_S1024x2304_S128x2304_768_0 inb_S1024x2304_S128x2304_768_0 x)
  refine List.forall_mem_cons.mpr ⟨fun x => ?_, ?_⟩
  exact (congrFun (dequant_5 _) x).trans (dequant_piece 5 640 rfl arg3 harg3 x2 inb_S1024x2304_S128x2304_640_0 inb_S1024x2304_S128x2304_640_0 x)
  refine List.forall_mem_cons.mpr ⟨fun x => ?_, ?_⟩
  exact (congrFun (dequant_4 _) x).trans (dequant_piece 4 512 rfl arg3 harg3 x2 inb_S1024x2304_S128x2304_512_0 inb_S1024x2304_S128x2304_512_0 x)
  refine List.forall_mem_cons.mpr ⟨fun x => ?_, ?_⟩
  exact (congrFun (dequant_3 _) x).trans (dequant_piece 3 384 rfl arg3 harg3 x2 inb_S1024x2304_S128x2304_384_0 inb_S1024x2304_S128x2304_384_0 x)
  refine List.forall_mem_cons.mpr ⟨fun x => ?_, ?_⟩
  exact (congrFun (dequant_2 _) x).trans (dequant_piece 2 256 rfl arg3 harg3 x2 inb_S1024x2304_S128x2304_256_0 inb_S1024x2304_S128x2304_256_0 x)
  refine List.forall_mem_cons.mpr ⟨fun x => ?_, ?_⟩
  exact (congrFun (dequant_1 _) x).trans (dequant_piece 1 128 rfl arg3 harg3 x2 inb_S1024x2304_S128x2304_128_0 inb_S1024x2304_S128x2304_128_0 x)
  refine List.forall_mem_cons.mpr ⟨fun x => ?_, ?_⟩
  exact (congrFun (dequant_0 _) x).trans (dequant_piece 0 0 rfl arg3 harg3 x2 inb_S1024x2304_S128x2304_0_0 inb_S1024x2304_S128x2304_0_0 x)
  exact fun p hp => absurd hp List.not_mem_nil

/-- The codes the point writes. -/
theorem codes_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    out0_B_3 c i arg1 harg1 arg2 harg2 arg3 harg3 arg6 harg6 arg7 harg7 arg8 harg8 arg9 harg9 arg10 harg10 hc0 hc1 x0 x1 x2 xs0 fh0 fw1 = codeAt x2 := by
  unfold out0_B_3
  rw [View.read_writes_eq_canon _ _ _ (fun y => by apply cover0_B_3)]
  funext y
  refine View.canon_apply_of_pieces (Val := Elt Ideal) (e := .fp8e5m2) (codeAt x2) _ ?_ y (by apply cover0_B_3)
  unfold kernelRun0_B
  dsimp only
  refine List.forall_mem_cons.mpr ⟨fun x => ?_, ?_⟩
  exact (congrFun (codes_7 _) x).trans (codes_piece 7 896 rfl arg3 harg3 x2 inb_S1024x2304_S128x2304_896_0 inb_S1024x2304_S128x2304_896_0 x)
  refine List.forall_mem_cons.mpr ⟨fun x => ?_, ?_⟩
  exact (congrFun (codes_6 _) x).trans (codes_piece 6 768 rfl arg3 harg3 x2 inb_S1024x2304_S128x2304_768_0 inb_S1024x2304_S128x2304_768_0 x)
  refine List.forall_mem_cons.mpr ⟨fun x => ?_, ?_⟩
  exact (congrFun (codes_5 _) x).trans (codes_piece 5 640 rfl arg3 harg3 x2 inb_S1024x2304_S128x2304_640_0 inb_S1024x2304_S128x2304_640_0 x)
  refine List.forall_mem_cons.mpr ⟨fun x => ?_, ?_⟩
  exact (congrFun (codes_4 _) x).trans (codes_piece 4 512 rfl arg3 harg3 x2 inb_S1024x2304_S128x2304_512_0 inb_S1024x2304_S128x2304_512_0 x)
  refine List.forall_mem_cons.mpr ⟨fun x => ?_, ?_⟩
  exact (congrFun (codes_3 _) x).trans (codes_piece 3 384 rfl arg3 harg3 x2 inb_S1024x2304_S128x2304_384_0 inb_S1024x2304_S128x2304_384_0 x)
  refine List.forall_mem_cons.mpr ⟨fun x => ?_, ?_⟩
  exact (congrFun (codes_2 _) x).trans (codes_piece 2 256 rfl arg3 harg3 x2 inb_S1024x2304_S128x2304_256_0 inb_S1024x2304_S128x2304_256_0 x)
  refine List.forall_mem_cons.mpr ⟨fun x => ?_, ?_⟩
  exact (congrFun (codes_1 _) x).trans (codes_piece 1 128 rfl arg3 harg3 x2 inb_S1024x2304_S128x2304_128_0 inb_S1024x2304_S128x2304_128_0 x)
  refine List.forall_mem_cons.mpr ⟨fun x => ?_, ?_⟩
  exact (congrFun (codes_0 _) x).trans (codes_piece 0 0 rfl arg3 harg3 x2 inb_S1024x2304_S128x2304_0_0 inb_S1024x2304_S128x2304_0_0 x)
  exact fun p hp => absurd hp List.not_mem_nil

/-- The scales the point writes. -/
theorem scales_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    out0_B_4 c i arg1 harg1 arg2 harg2 arg3 harg3 arg6 harg6 arg7 harg7 arg8 harg8 arg9 harg9 arg10 harg10 hc0 hc1 x0 x1 x2 xs0 fh0 fw1 = scaleAt x2 := by
  unfold out0_B_4
  rw [View.read_writes_eq_canon _ _ _ (fun y => by apply cover0_B_4)]
  funext y
  refine View.canon_apply_of_pieces (Val := Elt Ideal) (e := .f32) (scaleAt x2) _ ?_ y (by apply cover0_B_4)
  unfold kernelRun0_B
  dsimp only
  refine List.forall_mem_cons.mpr ⟨fun x => ?_, ?_⟩
  exact (congrFun (scales_7 _) x).trans (scales_piece 7 896 rfl 7 rfl arg3 harg3 x2 inb_S1024x2304_S128x2304_896_0 inb_S8x2304_S1x2304_7_0 x)
  refine List.forall_mem_cons.mpr ⟨fun x => ?_, ?_⟩
  exact (congrFun (scales_6 _) x).trans (scales_piece 6 768 rfl 6 rfl arg3 harg3 x2 inb_S1024x2304_S128x2304_768_0 inb_S8x2304_S1x2304_6_0 x)
  refine List.forall_mem_cons.mpr ⟨fun x => ?_, ?_⟩
  exact (congrFun (scales_5 _) x).trans (scales_piece 5 640 rfl 5 rfl arg3 harg3 x2 inb_S1024x2304_S128x2304_640_0 inb_S8x2304_S1x2304_5_0 x)
  refine List.forall_mem_cons.mpr ⟨fun x => ?_, ?_⟩
  exact (congrFun (scales_4 _) x).trans (scales_piece 4 512 rfl 4 rfl arg3 harg3 x2 inb_S1024x2304_S128x2304_512_0 inb_S8x2304_S1x2304_4_0 x)
  refine List.forall_mem_cons.mpr ⟨fun x => ?_, ?_⟩
  exact (congrFun (scales_3 _) x).trans (scales_piece 3 384 rfl 3 rfl arg3 harg3 x2 inb_S1024x2304_S128x2304_384_0 inb_S8x2304_S1x2304_3_0 x)
  refine List.forall_mem_cons.mpr ⟨fun x => ?_, ?_⟩
  exact (congrFun (scales_2 _) x).trans (scales_piece 2 256 rfl 2 rfl arg3 harg3 x2 inb_S1024x2304_S128x2304_256_0 inb_S8x2304_S1x2304_2_0 x)
  refine List.forall_mem_cons.mpr ⟨fun x => ?_, ?_⟩
  exact (congrFun (scales_1 _) x).trans (scales_piece 1 128 rfl 1 rfl arg3 harg3 x2 inb_S1024x2304_S128x2304_128_0 inb_S8x2304_S1x2304_1_0 x)
  refine List.forall_mem_cons.mpr ⟨fun x => ?_, ?_⟩
  exact (congrFun (scales_0 _) x).trans (scales_piece 0 0 rfl 0 rfl arg3 harg3 x2 inb_S1024x2304_S128x2304_0_0 inb_S8x2304_S1x2304_0_0 x)
  exact fun p hp => absurd hp List.not_mem_nil

/-- The accumulator after the point. -/
theorem acc_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : ¬cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    sout0_B_0 c i arg1 harg1 arg2 harg2 arg3 harg3 arg6 harg6 arg7 harg7 arg8 harg8 arg9 harg9 arg10 harg10 hc0 hc1 x0 x1 x2 xs0 fh0 fw1 = acc xs0 x0 x1 x2 := by
  unfold sout0_B_0
  rw [View.read_writes_eq_canon _ _ _ (fun y => by apply scover0_B_0)]
  funext y
  refine View.canon_apply_of_pieces (Val := Elt Ideal) (e := .f32) (acc xs0 x0 x1 x2) _ ?_ y (by apply scover0_B_0)
  unfold kernelRun0_B
  dsimp only
  refine List.forall_mem_cons.mpr ⟨fun x => ?_, ?_⟩
  exact (congrFun (tile_35 _ _ _) x).trans (tile_at xs0 x0 x1 x2 arg8 harg8 arg9 arg10 _ _ (xs_eq c arg1 harg1 arg2 harg2 x0 x1) (dy_eq c arg3 harg3 x2) 1536 2048 inb_S2048x1024_S512x1024_1536_0 inb_S1024x2304_S1024x256_0_2048 inb_S2048x2304_S512x256_1536_2048 inb_S2048x2304_S512x256_1536_2048 x)
  refine List.forall_mem_cons.mpr ⟨fun x => ?_, ?_⟩
  exact (congrFun (tile_34 _ _ _) x).trans (tile_at xs0 x0 x1 x2 arg8 harg8 arg9 arg10 _ _ (xs_eq c arg1 harg1 arg2 harg2 x0 x1) (dy_eq c arg3 harg3 x2) 1024 2048 inb_S2048x1024_S512x1024_1024_0 inb_S1024x2304_S1024x256_0_2048 inb_S2048x2304_S512x256_1024_2048 inb_S2048x2304_S512x256_1024_2048 x)
  refine List.forall_mem_cons.mpr ⟨fun x => ?_, ?_⟩
  exact (congrFun (tile_33 _ _ _) x).trans (tile_at xs0 x0 x1 x2 arg8 harg8 arg9 arg10 _ _ (xs_eq c arg1 harg1 arg2 harg2 x0 x1) (dy_eq c arg3 harg3 x2) 512 2048 inb_S2048x1024_S512x1024_512_0 inb_S1024x2304_S1024x256_0_2048 inb_S2048x2304_S512x256_512_2048 inb_S2048x2304_S512x256_512_2048 x)
  refine List.forall_mem_cons.mpr ⟨fun x => ?_, ?_⟩
  exact (congrFun (tile_32 _ _ _) x).trans (tile_at xs0 x0 x1 x2 arg8 harg8 arg9 arg10 _ _ (xs_eq c arg1 harg1 arg2 harg2 x0 x1) (dy_eq c arg3 harg3 x2) 0 2048 inb_S2048x1024_S512x1024_0_0 inb_S1024x2304_S1024x256_0_2048 inb_S2048x2304_S512x256_0_2048 inb_S2048x2304_S512x256_0_2048 x)
  refine List.forall_mem_cons.mpr ⟨fun x => ?_, ?_⟩
  exact (congrFun (tile_31 _ _ _) x).trans (tile_at xs0 x0 x1 x2 arg8 harg8 arg9 arg10 _ _ (xs_eq c arg1 harg1 arg2 harg2 x0 x1) (dy_eq c arg3 harg3 x2) 1536 1792 inb_S2048x1024_S512x1024_1536_0 inb_S1024x2304_S1024x256_0_1792 inb_S2048x2304_S512x256_1536_1792 inb_S2048x2304_S512x256_1536_1792 x)
  refine List.forall_mem_cons.mpr ⟨fun x => ?_, ?_⟩
  exact (congrFun (tile_30 _ _ _) x).trans (tile_at xs0 x0 x1 x2 arg8 harg8 arg9 arg10 _ _ (xs_eq c arg1 harg1 arg2 harg2 x0 x1) (dy_eq c arg3 harg3 x2) 1024 1792 inb_S2048x1024_S512x1024_1024_0 inb_S1024x2304_S1024x256_0_1792 inb_S2048x2304_S512x256_1024_1792 inb_S2048x2304_S512x256_1024_1792 x)
  refine List.forall_mem_cons.mpr ⟨fun x => ?_, ?_⟩
  exact (congrFun (tile_29 _ _ _) x).trans (tile_at xs0 x0 x1 x2 arg8 harg8 arg9 arg10 _ _ (xs_eq c arg1 harg1 arg2 harg2 x0 x1) (dy_eq c arg3 harg3 x2) 512 1792 inb_S2048x1024_S512x1024_512_0 inb_S1024x2304_S1024x256_0_1792 inb_S2048x2304_S512x256_512_1792 inb_S2048x2304_S512x256_512_1792 x)
  refine List.forall_mem_cons.mpr ⟨fun x => ?_, ?_⟩
  exact (congrFun (tile_28 _ _ _) x).trans (tile_at xs0 x0 x1 x2 arg8 harg8 arg9 arg10 _ _ (xs_eq c arg1 harg1 arg2 harg2 x0 x1) (dy_eq c arg3 harg3 x2) 0 1792 inb_S2048x1024_S512x1024_0_0 inb_S1024x2304_S1024x256_0_1792 inb_S2048x2304_S512x256_0_1792 inb_S2048x2304_S512x256_0_1792 x)
  refine List.forall_mem_cons.mpr ⟨fun x => ?_, ?_⟩
  exact (congrFun (tile_27 _ _ _) x).trans (tile_at xs0 x0 x1 x2 arg8 harg8 arg9 arg10 _ _ (xs_eq c arg1 harg1 arg2 harg2 x0 x1) (dy_eq c arg3 harg3 x2) 1536 1536 inb_S2048x1024_S512x1024_1536_0 inb_S1024x2304_S1024x256_0_1536 inb_S2048x2304_S512x256_1536_1536 inb_S2048x2304_S512x256_1536_1536 x)
  refine List.forall_mem_cons.mpr ⟨fun x => ?_, ?_⟩
  exact (congrFun (tile_26 _ _ _) x).trans (tile_at xs0 x0 x1 x2 arg8 harg8 arg9 arg10 _ _ (xs_eq c arg1 harg1 arg2 harg2 x0 x1) (dy_eq c arg3 harg3 x2) 1024 1536 inb_S2048x1024_S512x1024_1024_0 inb_S1024x2304_S1024x256_0_1536 inb_S2048x2304_S512x256_1024_1536 inb_S2048x2304_S512x256_1024_1536 x)
  refine List.forall_mem_cons.mpr ⟨fun x => ?_, ?_⟩
  exact (congrFun (tile_25 _ _ _) x).trans (tile_at xs0 x0 x1 x2 arg8 harg8 arg9 arg10 _ _ (xs_eq c arg1 harg1 arg2 harg2 x0 x1) (dy_eq c arg3 harg3 x2) 512 1536 inb_S2048x1024_S512x1024_512_0 inb_S1024x2304_S1024x256_0_1536 inb_S2048x2304_S512x256_512_1536 inb_S2048x2304_S512x256_512_1536 x)
  refine List.forall_mem_cons.mpr ⟨fun x => ?_, ?_⟩
  exact (congrFun (tile_24 _ _ _) x).trans (tile_at xs0 x0 x1 x2 arg8 harg8 arg9 arg10 _ _ (xs_eq c arg1 harg1 arg2 harg2 x0 x1) (dy_eq c arg3 harg3 x2) 0 1536 inb_S2048x1024_S512x1024_0_0 inb_S1024x2304_S1024x256_0_1536 inb_S2048x2304_S512x256_0_1536 inb_S2048x2304_S512x256_0_1536 x)
  refine List.forall_mem_cons.mpr ⟨fun x => ?_, ?_⟩
  exact (congrFun (tile_23 _ _ _) x).trans (tile_at xs0 x0 x1 x2 arg8 harg8 arg9 arg10 _ _ (xs_eq c arg1 harg1 arg2 harg2 x0 x1) (dy_eq c arg3 harg3 x2) 1536 1280 inb_S2048x1024_S512x1024_1536_0 inb_S1024x2304_S1024x256_0_1280 inb_S2048x2304_S512x256_1536_1280 inb_S2048x2304_S512x256_1536_1280 x)
  refine List.forall_mem_cons.mpr ⟨fun x => ?_, ?_⟩
  exact (congrFun (tile_22 _ _ _) x).trans (tile_at xs0 x0 x1 x2 arg8 harg8 arg9 arg10 _ _ (xs_eq c arg1 harg1 arg2 harg2 x0 x1) (dy_eq c arg3 harg3 x2) 1024 1280 inb_S2048x1024_S512x1024_1024_0 inb_S1024x2304_S1024x256_0_1280 inb_S2048x2304_S512x256_1024_1280 inb_S2048x2304_S512x256_1024_1280 x)
  refine List.forall_mem_cons.mpr ⟨fun x => ?_, ?_⟩
  exact (congrFun (tile_21 _ _ _) x).trans (tile_at xs0 x0 x1 x2 arg8 harg8 arg9 arg10 _ _ (xs_eq c arg1 harg1 arg2 harg2 x0 x1) (dy_eq c arg3 harg3 x2) 512 1280 inb_S2048x1024_S512x1024_512_0 inb_S1024x2304_S1024x256_0_1280 inb_S2048x2304_S512x256_512_1280 inb_S2048x2304_S512x256_512_1280 x)
  refine List.forall_mem_cons.mpr ⟨fun x => ?_, ?_⟩
  exact (congrFun (tile_20 _ _ _) x).trans (tile_at xs0 x0 x1 x2 arg8 harg8 arg9 arg10 _ _ (xs_eq c arg1 harg1 arg2 harg2 x0 x1) (dy_eq c arg3 harg3 x2) 0 1280 inb_S2048x1024_S512x1024_0_0 inb_S1024x2304_S1024x256_0_1280 inb_S2048x2304_S512x256_0_1280 inb_S2048x2304_S512x256_0_1280 x)
  refine List.forall_mem_cons.mpr ⟨fun x => ?_, ?_⟩
  exact (congrFun (tile_19 _ _ _) x).trans (tile_at xs0 x0 x1 x2 arg8 harg8 arg9 arg10 _ _ (xs_eq c arg1 harg1 arg2 harg2 x0 x1) (dy_eq c arg3 harg3 x2) 1536 1024 inb_S2048x1024_S512x1024_1536_0 inb_S1024x2304_S1024x256_0_1024 inb_S2048x2304_S512x256_1536_1024 inb_S2048x2304_S512x256_1536_1024 x)
  refine List.forall_mem_cons.mpr ⟨fun x => ?_, ?_⟩
  exact (congrFun (tile_18 _ _ _) x).trans (tile_at xs0 x0 x1 x2 arg8 harg8 arg9 arg10 _ _ (xs_eq c arg1 harg1 arg2 harg2 x0 x1) (dy_eq c arg3 harg3 x2) 1024 1024 inb_S2048x1024_S512x1024_1024_0 inb_S1024x2304_S1024x256_0_1024 inb_S2048x2304_S512x256_1024_1024 inb_S2048x2304_S512x256_1024_1024 x)
  refine List.forall_mem_cons.mpr ⟨fun x => ?_, ?_⟩
  exact (congrFun (tile_17 _ _ _) x).trans (tile_at xs0 x0 x1 x2 arg8 harg8 arg9 arg10 _ _ (xs_eq c arg1 harg1 arg2 harg2 x0 x1) (dy_eq c arg3 harg3 x2) 512 1024 inb_S2048x1024_S512x1024_512_0 inb_S1024x2304_S1024x256_0_1024 inb_S2048x2304_S512x256_512_1024 inb_S2048x2304_S512x256_512_1024 x)
  refine List.forall_mem_cons.mpr ⟨fun x => ?_, ?_⟩
  exact (congrFun (tile_16 _ _ _) x).trans (tile_at xs0 x0 x1 x2 arg8 harg8 arg9 arg10 _ _ (xs_eq c arg1 harg1 arg2 harg2 x0 x1) (dy_eq c arg3 harg3 x2) 0 1024 inb_S2048x1024_S512x1024_0_0 inb_S1024x2304_S1024x256_0_1024 inb_S2048x2304_S512x256_0_1024 inb_S2048x2304_S512x256_0_1024 x)
  refine List.forall_mem_cons.mpr ⟨fun x => ?_, ?_⟩
  exact (congrFun (tile_15 _ _ _) x).trans (tile_at xs0 x0 x1 x2 arg8 harg8 arg9 arg10 _ _ (xs_eq c arg1 harg1 arg2 harg2 x0 x1) (dy_eq c arg3 harg3 x2) 1536 768 inb_S2048x1024_S512x1024_1536_0 inb_S1024x2304_S1024x256_0_768 inb_S2048x2304_S512x256_1536_768 inb_S2048x2304_S512x256_1536_768 x)
  refine List.forall_mem_cons.mpr ⟨fun x => ?_, ?_⟩
  exact (congrFun (tile_14 _ _ _) x).trans (tile_at xs0 x0 x1 x2 arg8 harg8 arg9 arg10 _ _ (xs_eq c arg1 harg1 arg2 harg2 x0 x1) (dy_eq c arg3 harg3 x2) 1024 768 inb_S2048x1024_S512x1024_1024_0 inb_S1024x2304_S1024x256_0_768 inb_S2048x2304_S512x256_1024_768 inb_S2048x2304_S512x256_1024_768 x)
  refine List.forall_mem_cons.mpr ⟨fun x => ?_, ?_⟩
  exact (congrFun (tile_13 _ _ _) x).trans (tile_at xs0 x0 x1 x2 arg8 harg8 arg9 arg10 _ _ (xs_eq c arg1 harg1 arg2 harg2 x0 x1) (dy_eq c arg3 harg3 x2) 512 768 inb_S2048x1024_S512x1024_512_0 inb_S1024x2304_S1024x256_0_768 inb_S2048x2304_S512x256_512_768 inb_S2048x2304_S512x256_512_768 x)
  refine List.forall_mem_cons.mpr ⟨fun x => ?_, ?_⟩
  exact (congrFun (tile_12 _ _ _) x).trans (tile_at xs0 x0 x1 x2 arg8 harg8 arg9 arg10 _ _ (xs_eq c arg1 harg1 arg2 harg2 x0 x1) (dy_eq c arg3 harg3 x2) 0 768 inb_S2048x1024_S512x1024_0_0 inb_S1024x2304_S1024x256_0_768 inb_S2048x2304_S512x256_0_768 inb_S2048x2304_S512x256_0_768 x)
  refine List.forall_mem_cons.mpr ⟨fun x => ?_, ?_⟩
  exact (congrFun (tile_11 _ _ _) x).trans (tile_at xs0 x0 x1 x2 arg8 harg8 arg9 arg10 _ _ (xs_eq c arg1 harg1 arg2 harg2 x0 x1) (dy_eq c arg3 harg3 x2) 1536 512 inb_S2048x1024_S512x1024_1536_0 inb_S1024x2304_S1024x256_0_512 inb_S2048x2304_S512x256_1536_512 inb_S2048x2304_S512x256_1536_512 x)
  refine List.forall_mem_cons.mpr ⟨fun x => ?_, ?_⟩
  exact (congrFun (tile_10 _ _ _) x).trans (tile_at xs0 x0 x1 x2 arg8 harg8 arg9 arg10 _ _ (xs_eq c arg1 harg1 arg2 harg2 x0 x1) (dy_eq c arg3 harg3 x2) 1024 512 inb_S2048x1024_S512x1024_1024_0 inb_S1024x2304_S1024x256_0_512 inb_S2048x2304_S512x256_1024_512 inb_S2048x2304_S512x256_1024_512 x)
  refine List.forall_mem_cons.mpr ⟨fun x => ?_, ?_⟩
  exact (congrFun (tile_9 _ _ _) x).trans (tile_at xs0 x0 x1 x2 arg8 harg8 arg9 arg10 _ _ (xs_eq c arg1 harg1 arg2 harg2 x0 x1) (dy_eq c arg3 harg3 x2) 512 512 inb_S2048x1024_S512x1024_512_0 inb_S1024x2304_S1024x256_0_512 inb_S2048x2304_S512x256_512_512 inb_S2048x2304_S512x256_512_512 x)
  refine List.forall_mem_cons.mpr ⟨fun x => ?_, ?_⟩
  exact (congrFun (tile_8 _ _ _) x).trans (tile_at xs0 x0 x1 x2 arg8 harg8 arg9 arg10 _ _ (xs_eq c arg1 harg1 arg2 harg2 x0 x1) (dy_eq c arg3 harg3 x2) 0 512 inb_S2048x1024_S512x1024_0_0 inb_S1024x2304_S1024x256_0_512 inb_S2048x2304_S512x256_0_512 inb_S2048x2304_S512x256_0_512 x)
  refine List.forall_mem_cons.mpr ⟨fun x => ?_, ?_⟩
  exact (congrFun (tile_7 _ _ _) x).trans (tile_at xs0 x0 x1 x2 arg8 harg8 arg9 arg10 _ _ (xs_eq c arg1 harg1 arg2 harg2 x0 x1) (dy_eq c arg3 harg3 x2) 1536 256 inb_S2048x1024_S512x1024_1536_0 inb_S1024x2304_S1024x256_0_256 inb_S2048x2304_S512x256_1536_256 inb_S2048x2304_S512x256_1536_256 x)
  refine List.forall_mem_cons.mpr ⟨fun x => ?_, ?_⟩
  exact (congrFun (tile_6 _ _ _) x).trans (tile_at xs0 x0 x1 x2 arg8 harg8 arg9 arg10 _ _ (xs_eq c arg1 harg1 arg2 harg2 x0 x1) (dy_eq c arg3 harg3 x2) 1024 256 inb_S2048x1024_S512x1024_1024_0 inb_S1024x2304_S1024x256_0_256 inb_S2048x2304_S512x256_1024_256 inb_S2048x2304_S512x256_1024_256 x)
  refine List.forall_mem_cons.mpr ⟨fun x => ?_, ?_⟩
  exact (congrFun (tile_5 _ _ _) x).trans (tile_at xs0 x0 x1 x2 arg8 harg8 arg9 arg10 _ _ (xs_eq c arg1 harg1 arg2 harg2 x0 x1) (dy_eq c arg3 harg3 x2) 512 256 inb_S2048x1024_S512x1024_512_0 inb_S1024x2304_S1024x256_0_256 inb_S2048x2304_S512x256_512_256 inb_S2048x2304_S512x256_512_256 x)
  refine List.forall_mem_cons.mpr ⟨fun x => ?_, ?_⟩
  exact (congrFun (tile_4 _ _ _) x).trans (tile_at xs0 x0 x1 x2 arg8 harg8 arg9 arg10 _ _ (xs_eq c arg1 harg1 arg2 harg2 x0 x1) (dy_eq c arg3 harg3 x2) 0 256 inb_S2048x1024_S512x1024_0_0 inb_S1024x2304_S1024x256_0_256 inb_S2048x2304_S512x256_0_256 inb_S2048x2304_S512x256_0_256 x)
  refine List.forall_mem_cons.mpr ⟨fun x => ?_, ?_⟩
  exact (congrFun (tile_3 _ _ _) x).trans (tile_at xs0 x0 x1 x2 arg8 harg8 arg9 arg10 _ _ (xs_eq c arg1 harg1 arg2 harg2 x0 x1) (dy_eq c arg3 harg3 x2) 1536 0 inb_S2048x1024_S512x1024_1536_0 inb_S1024x2304_S1024x256_0_0 inb_S2048x2304_S512x256_1536_0 inb_S2048x2304_S512x256_1536_0 x)
  refine List.forall_mem_cons.mpr ⟨fun x => ?_, ?_⟩
  exact (congrFun (tile_2 _ _ _) x).trans (tile_at xs0 x0 x1 x2 arg8 harg8 arg9 arg10 _ _ (xs_eq c arg1 harg1 arg2 harg2 x0 x1) (dy_eq c arg3 harg3 x2) 1024 0 inb_S2048x1024_S512x1024_1024_0 inb_S1024x2304_S1024x256_0_0 inb_S2048x2304_S512x256_1024_0 inb_S2048x2304_S512x256_1024_0 x)
  refine List.forall_mem_cons.mpr ⟨fun x => ?_, ?_⟩
  exact (congrFun (tile_1 _ _ _) x).trans (tile_at xs0 x0 x1 x2 arg8 harg8 arg9 arg10 _ _ (xs_eq c arg1 harg1 arg2 harg2 x0 x1) (dy_eq c arg3 harg3 x2) 512 0 inb_S2048x1024_S512x1024_512_0 inb_S1024x2304_S1024x256_0_0 inb_S2048x2304_S512x256_512_0 inb_S2048x2304_S512x256_512_0 x)
  refine List.forall_mem_cons.mpr ⟨fun x => ?_, ?_⟩
  exact (congrFun (tile_0 _ _ _) x).trans (tile_at xs0 x0 x1 x2 arg8 harg8 arg9 arg10 _ _ (xs_eq c arg1 harg1 arg2 harg2 x0 x1) (dy_eq c arg3 harg3 x2) 0 0 inb_S2048x1024_S512x1024_0_0 inb_S1024x2304_S1024x256_0_0 inb_S2048x2304_S512x256_0_0 inb_S2048x2304_S512x256_0_0 x)
  exact fun p hp => absurd hp List.not_mem_nil

end Cert.KernelIdeal.RunB

end
-- ==== Proof.RunC.lean ====
/-
  THE RUN OF THE BODY AT THE LAST POINT: what its stores leave, as functions of the point's blocks.
-/
module

public import proofs.«01_k».proof.Proof.KernelFrame
public import proofs.«01_k».proof.Proof.Tiles

@[expose] public section

set_option maxHeartbeats 1000000

noncomputable section

namespace Cert.KernelIdeal.RunC

open Idealize.ShloMosaic Cert.KernelIdeal Cert.KernelIdeal.Gen Cert.KernelIdeal.Block Cert.KernelIdeal.Point Cert.KernelIdeal.Tiles
open Idealize.ShloMosaic.TcCoe Idealize.SL.Sem

/-- The scratch of scaled `x`. -/
theorem xs_eq (c : Dev nD) (arg1 : Memref sig .tc .vmem S1024x2048 .fp8e4m3) (harg1 : arg1.IsWhole) (arg2 : Memref sig .tc .vmem S8x2048 .f32) (harg2 : arg2.IsWhole)
    (x0 : Vec Ideal S1024x2048 .fp8e4m3) (x1 : Vec Ideal S8x2048 .f32) (y : S2048x1024.Idx) :
    View.canon (kernelRun0_C.sl.HS1_8 (F := Ideal) c arg1 harg1 arg2 harg2 x0 x1) y = xAt x0 x1 y := by
  refine View.canon_apply_of_pieces (xAt x0 x1) _ ?_ y (View.cover_of_tiledL (s := S2048x1024) (kernelRun0_C.sl.HS1_8 (F := Ideal) c arg1 harg1 arg2 harg2 x0 x1) S2048x128.size (by sl_kernel_rfl) y)
  unfold kernelRun0_C.sl.HS1_8
  refine List.forall_mem_cons.mpr ⟨fun x => ?_, ?_⟩
  exact (congrFun (rows_7 _ _) x).trans (rows_piece 7 896 rfl 7 rfl arg1 harg1 arg2 harg2 x0 x1 inb_S1024x2048_S128x2048_896_0 inb_S8x2048_S1x2048_7_0 inb_S2048x1024_S2048x128_0_896 x)
  refine List.forall_mem_cons.mpr ⟨fun x => ?_, ?_⟩
  exact (congrFun (rows_6 _ _) x).trans (rows_piece 6 768 rfl 6 rfl arg1 harg1 arg2 harg2 x0 x1 inb_S1024x2048_S128x2048_768_0 inb_S8x2048_S1x2048_6_0 inb_S2048x1024_S2048x128_0_768 x)
  refine List.forall_mem_cons.mpr ⟨fun x => ?_, ?_⟩
  exact (congrFun (rows_5 _ _) x).trans (rows_piece 5 640 rfl 5 rfl arg1 harg1 arg2 harg2 x0 x1 inb_S1024x2048_S128x2048_640_0 inb_S8x2048_S1x2048_5_0 inb_S2048x1024_S2048x128_0_640 x)
  refine List.forall_mem_cons.mpr ⟨fun x => ?_, ?_⟩
  exact (congrFun (rows_4 _ _) x).trans (rows_piece 4 512 rfl 4 rfl arg1 harg1 arg2 harg2 x0 x1 inb_S1024x2048_S128x2048_512_0 inb_S8x2048_S1x2048_4_0 inb_S2048x1024_S2048x128_0_512 x)
  refine List.forall_mem_cons.mpr ⟨fun x => ?_, ?_⟩
  exact (congrFun (rows_3 _ _) x).trans (rows_piece 3 384 rfl 3 rfl arg1 harg1 arg2 harg2 x0 x1 inb_S1024x2048_S128x2048_384_0 inb_S8x2048_S1x2048_3_0 inb_S2048x1024_S2048x128_0_384 x)
  refine List.forall_mem_cons.mpr ⟨fun x => ?_, ?_⟩
  exact (congrFun (rows_2 _ _) x).trans (rows_piece 2 256 rfl 2 rfl arg1 harg1 arg2 harg2 x0 x1 inb_S1024x2048_S128x2048_256_0 inb_S8x2048_S1x2048_2_0 inb_S2048x1024_S2048x128_0_256 x)
  refine List.forall_mem_cons.mpr ⟨fun x => ?_, ?_⟩
  exact (congrFun (rows_1 _ _) x).trans (rows_piece 1 128 rfl 1 rfl arg1 harg1 arg2 harg2 x0 x1 inb_S1024x2048_S128x2048_128_0 inb_S8x2048_S1x2048_1_0 inb_S2048x1024_S2048x128_0_128 x)
  refine List.forall_mem_cons.mpr ⟨fun x => ?_, ?_⟩
  exact (congrFun (rows_0 _ _) x).trans (rows_piece 0 0 rfl 0 rfl arg1 harg1 arg2 harg2 x0 x1 inb_S1024x2048_S128x2048_0_0 inb_S8x2048_S1x2048_0_0 inb_S2048x1024_S2048x128_0_0 x)
  exact fun p hp => absurd hp List.not_mem_nil

/-- The scratch of dequantised `dy`. -/
theorem dy_eq (c : Dev nD) (arg3 : Memref sig .tc .vmem S1024x2304 .bf16) (harg3 : arg3.IsWhole) (x2 : Vec Ideal S1024x2304 .bf16) (y : S1024x2304.Idx) :
    View.canon (kernelRun0_C.sl.HS2_8 (F := Ideal) c arg3 harg3 x2) y = dyAt x2 y := by
  refine View.canon_apply_of_pieces (dyAt x2) _ ?_ y (View.cover_of_tiledL (s := S1024x2304) (kernelRun0_C.sl.HS2_8 (F := Ideal) c arg3 harg3 x2) S128x2304.size (by sl_kernel_rfl) y)
  unfold kernelRun0_C.sl.HS2_8
  refine List.forall_mem_cons.mpr ⟨fun x => ?_, ?_⟩
  exact (congrFun (dequant_7 _) x).trans (dequant_piece 7 896 rfl arg3 harg3 x2 inb_S1024x2304_S128x2304_896_0 inb_S1024x2304_S128x2304_896_0 x)
  refine List.forall_mem_cons.mpr ⟨fun x => ?_, ?_⟩
  exact (congrFun (dequant_6 _) x).trans (dequant_piece 6 768 rfl arg3 harg3 x2 inb_S1024x2304_S128x2304_768_0 inb_S1024x2304_S128x2304_768_0 x)
  refine List.forall_mem_cons.mpr ⟨fun x => ?_, ?_⟩
  exact (congrFun (dequant_5 _) x).trans (dequant_piece 5 640 rfl arg3 harg3 x2 inb_S1024x2304_S128x2304_640_0 inb_S1024x2304_S128x2304_640_0 x)
  refine List.forall_mem_cons.mpr ⟨fun x => ?_, ?_⟩
  exact (congrFun (dequant_4 _) x).trans (dequant_piece 4 512 rfl arg3 harg3 x2 inb_S1024x2304_S128x2304_512_0 inb_S1024x2304_S128x2304_512_0 x)
  refine List.forall_mem_cons.mpr ⟨fun x => ?_, ?_⟩
  exact (congrFun (dequant_3 _) x).trans (dequant_piece 3 384 rfl arg3 harg3 x2 inb_S1024x2304_S128x2304_384_0 inb_S1024x2304_S128x2304_384_0 x)
  refine List.forall_mem_cons.mpr ⟨fun x => ?_, ?_⟩
  exact (congrFun (dequant_2 _) x).trans (dequant_piece 2 256 rfl arg3 harg3 x2 inb_S1024x2304_S128x2304_256_0 inb_S1024x2304_S128x2304_256_0 x)
  refine List.forall_mem_cons.mpr ⟨fun x => ?_, ?_⟩
  exact (congrFun (dequant_1 _) x).trans (dequant_piece 1 128 rfl arg3 harg3 x2 inb_S1024x2304_S128x2304_128_0 inb_S1024x2304_S128x2304_128_0 x)
  refine List.forall_mem_cons.mpr ⟨fun x => ?_, ?_⟩
  exact (congrFun (dequant_0 _) x).trans (dequant_piece 0 0 rfl arg3 harg3 x2 inb_S1024x2304_S128x2304_0_0 inb_S1024x2304_S128x2304_0_0 x)
  exact fun p hp => absurd hp List.not_mem_nil

/-- The codes the point writes. -/
theorem codes_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    out0_C_3 c i arg1 harg1 arg2 harg2 arg3 harg3 arg6 harg6 arg7 harg7 arg8 harg8 arg9 harg9 arg10 harg10 hc0 hc1 x0 x1 x2 xs0 fh0 fw1 = codeAt x2 := by
  unfold out0_C_3
  rw [View.read_writes_eq_canon _ _ _ (fun y => by apply cover0_C_3)]
  funext y
  refine View.canon_apply_of_pieces (Val := Elt Ideal) (e := .fp8e5m2) (codeAt x2) _ ?_ y (by apply cover0_C_3)
  unfold kernelRun0_C
  dsimp only
  refine List.forall_mem_cons.mpr ⟨fun x => ?_, ?_⟩
  exact (congrFun (codes_7 _) x).trans (codes_piece 7 896 rfl arg3 harg3 x2 inb_S1024x2304_S128x2304_896_0 inb_S1024x2304_S128x2304_896_0 x)
  refine List.forall_mem_cons.mpr ⟨fun x => ?_, ?_⟩
  exact (congrFun (codes_6 _) x).trans (codes_piece 6 768 rfl arg3 harg3 x2 inb_S1024x2304_S128x2304_768_0 inb_S1024x2304_S128x2304_768_0 x)
  refine List.forall_mem_cons.mpr ⟨fun x => ?_, ?_⟩
  exact (congrFun (codes_5 _) x).trans (codes_piece 5 640 rfl arg3 harg3 x2 inb_S1024x2304_S128x2304_640_0 inb_S1024x2304_S128x2304_640_0 x)
  refine List.forall_mem_cons.mpr ⟨fun x => ?_, ?_⟩
  exact (congrFun (codes_4 _) x).trans (codes_piece 4 512 rfl arg3 harg3 x2 inb_S1024x2304_S128x2304_512_0 inb_S1024x2304_S128x2304_512_0 x)
  refine List.forall_mem_cons.mpr ⟨fun x => ?_, ?_⟩
  exact (congrFun (codes_3 _) x).trans (codes_piece 3 384 rfl arg3 harg3 x2 inb_S1024x2304_S128x2304_384_0 inb_S1024x2304_S128x2304_384_0 x)
  refine List.forall_mem_cons.mpr ⟨fun x => ?_, ?_⟩
  exact (congrFun (codes_2 _) x).trans (codes_piece 2 256 rfl arg3 harg3 x2 inb_S1024x2304_S128x2304_256_0 inb_S1024x2304_S128x2304_256_0 x)
  refine List.forall_mem_cons.mpr ⟨fun x => ?_, ?_⟩
  exact (congrFun (codes_1 _) x).trans (codes_piece 1 128 rfl arg3 harg3 x2 inb_S1024x2304_S128x2304_128_0 inb_S1024x2304_S128x2304_128_0 x)
  refine List.forall_mem_cons.mpr ⟨fun x => ?_, ?_⟩
  exact (congrFun (codes_0 _) x).trans (codes_piece 0 0 rfl arg3 harg3 x2 inb_S1024x2304_S128x2304_0_0 inb_S1024x2304_S128x2304_0_0 x)
  exact fun p hp => absurd hp List.not_mem_nil

/-- The scales the point writes. -/
theorem scales_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    out0_C_4 c i arg1 harg1 arg2 harg2 arg3 harg3 arg6 harg6 arg7 harg7 arg8 harg8 arg9 harg9 arg10 harg10 hc0 hc1 x0 x1 x2 xs0 fh0 fw1 = scaleAt x2 := by
  unfold out0_C_4
  rw [View.read_writes_eq_canon _ _ _ (fun y => by apply cover0_C_4)]
  funext y
  refine View.canon_apply_of_pieces (Val := Elt Ideal) (e := .f32) (scaleAt x2) _ ?_ y (by apply cover0_C_4)
  unfold kernelRun0_C
  dsimp only
  refine List.forall_mem_cons.mpr ⟨fun x => ?_, ?_⟩
  exact (congrFun (scales_7 _) x).trans (scales_piece 7 896 rfl 7 rfl arg3 harg3 x2 inb_S1024x2304_S128x2304_896_0 inb_S8x2304_S1x2304_7_0 x)
  refine List.forall_mem_cons.mpr ⟨fun x => ?_, ?_⟩
  exact (congrFun (scales_6 _) x).trans (scales_piece 6 768 rfl 6 rfl arg3 harg3 x2 inb_S1024x2304_S128x2304_768_0 inb_S8x2304_S1x2304_6_0 x)
  refine List.forall_mem_cons.mpr ⟨fun x => ?_, ?_⟩
  exact (congrFun (scales_5 _) x).trans (scales_piece 5 640 rfl 5 rfl arg3 harg3 x2 inb_S1024x2304_S128x2304_640_0 inb_S8x2304_S1x2304_5_0 x)
  refine List.forall_mem_cons.mpr ⟨fun x => ?_, ?_⟩
  exact (congrFun (scales_4 _) x).trans (scales_piece 4 512 rfl 4 rfl arg3 harg3 x2 inb_S1024x2304_S128x2304_512_0 inb_S8x2304_S1x2304_4_0 x)
  refine List.forall_mem_cons.mpr ⟨fun x => ?_, ?_⟩
  exact (congrFun (scales_3 _) x).trans (scales_piece 3 384 rfl 3 rfl arg3 harg3 x2 inb_S1024x2304_S128x2304_384_0 inb_S8x2304_S1x2304_3_0 x)
  refine List.forall_mem_cons.mpr ⟨fun x => ?_, ?_⟩
  exact (congrFun (scales_2 _) x).trans (scales_piece 2 256 rfl 2 rfl arg3 harg3 x2 inb_S1024x2304_S128x2304_256_0 inb_S8x2304_S1x2304_2_0 x)
  refine List.forall_mem_cons.mpr ⟨fun x => ?_, ?_⟩
  exact (congrFun (scales_1 _) x).trans (scales_piece 1 128 rfl 1 rfl arg3 harg3 x2 inb_S1024x2304_S128x2304_128_0 inb_S8x2304_S1x2304_1_0 x)
  refine List.forall_mem_cons.mpr ⟨fun x => ?_, ?_⟩
  exact (congrFun (scales_0 _) x).trans (scales_piece 0 0 rfl 0 rfl arg3 harg3 x2 inb_S1024x2304_S128x2304_0_0 inb_S8x2304_S1x2304_0_0 x)
  exact fun p hp => absurd hp List.not_mem_nil

/-- The accumulator after the point. -/
theorem acc_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    sout0_C_0 c i arg1 harg1 arg2 harg2 arg3 harg3 arg6 harg6 arg7 harg7 arg8 harg8 arg9 harg9 arg10 harg10 hc0 hc1 x0 x1 x2 xs0 fh0 fw1 = acc xs0 x0 x1 x2 := by
  unfold sout0_C_0
  rw [View.read_writes_eq_canon _ _ _ (fun y => by apply scover0_C_0)]
  funext y
  refine View.canon_apply_of_pieces (Val := Elt Ideal) (e := .f32) (acc xs0 x0 x1 x2) _ ?_ y (by apply scover0_C_0)
  unfold kernelRun0_C
  dsimp only
  unfold kernelRun0_C.sl.HS0_36
  refine List.forall_mem_cons.mpr ⟨fun x => ?_, ?_⟩
  exact (congrFun (tile_35 _ _ _) x).trans (tile_at xs0 x0 x1 x2 arg8 harg8 arg9 arg10 _ _ (xs_eq c arg1 harg1 arg2 harg2 x0 x1) (dy_eq c arg3 harg3 x2) 1536 2048 inb_S2048x1024_S512x1024_1536_0 inb_S1024x2304_S1024x256_0_2048 inb_S2048x2304_S512x256_1536_2048 inb_S2048x2304_S512x256_1536_2048 x)
  refine List.forall_mem_cons.mpr ⟨fun x => ?_, ?_⟩
  exact (congrFun (tile_34 _ _ _) x).trans (tile_at xs0 x0 x1 x2 arg8 harg8 arg9 arg10 _ _ (xs_eq c arg1 harg1 arg2 harg2 x0 x1) (dy_eq c arg3 harg3 x2) 1024 2048 inb_S2048x1024_S512x1024_1024_0 inb_S1024x2304_S1024x256_0_2048 inb_S2048x2304_S512x256_1024_2048 inb_S2048x2304_S512x256_1024_2048 x)
  refine List.forall_mem_cons.mpr ⟨fun x => ?_, ?_⟩
  exact (congrFun (tile_33 _ _ _) x).trans (tile_at xs0 x0 x1 x2 arg8 harg8 arg9 arg10 _ _ (xs_eq c arg1 harg1 arg2 harg2 x0 x1) (dy_eq c arg3 harg3 x2) 512 2048 inb_S2048x1024_S512x1024_512_0 inb_S1024x2304_S1024x256_0_2048 inb_S2048x2304_S512x256_512_2048 inb_S2048x2304_S512x256_512_2048 x)
  refine List.forall_mem_cons.mpr ⟨fun x => ?_, ?_⟩
  exact (congrFun (tile_32 _ _ _) x).trans (tile_at xs0 x0 x1 x2 arg8 harg8 arg9 arg10 _ _ (xs_eq c arg1 harg1 arg2 harg2 x0 x1) (dy_eq c arg3 harg3 x2) 0 2048 inb_S2048x1024_S512x1024_0_0 inb_S1024x2304_S1024x256_0_2048 inb_S2048x2304_S512x256_0_2048 inb_S2048x2304_S512x256_0_2048 x)
  refine List.forall_mem_cons.mpr ⟨fun x => ?_, ?_⟩
  exact (congrFun (tile_31 _ _ _) x).trans (tile_at xs0 x0 x1 x2 arg8 harg8 arg9 arg10 _ _ (xs_eq c arg1 harg1 arg2 harg2 x0 x1) (dy_eq c arg3 harg3 x2) 1536 1792 inb_S2048x1024_S512x1024_1536_0 inb_S1024x2304_S1024x256_0_1792 inb_S2048x2304_S512x256_1536_1792 inb_S2048x2304_S512x256_1536_1792 x)
  refine List.forall_mem_cons.mpr ⟨fun x => ?_, ?_⟩
  exact (congrFun (tile_30 _ _ _) x).trans (tile_at xs0 x0 x1 x2 arg8 harg8 arg9 arg10 _ _ (xs_eq c arg1 harg1 arg2 harg2 x0 x1) (dy_eq c arg3 harg3 x2) 1024 1792 inb_S2048x1024_S512x1024_1024_0 inb_S1024x2304_S1024x256_0_1792 inb_S2048x2304_S512x256_1024_1792 inb_S2048x2304_S512x256_1024_1792 x)
  refine List.forall_mem_cons.mpr ⟨fun x => ?_, ?_⟩
  exact (congrFun (tile_29 _ _ _) x).trans (tile_at xs0 x0 x1 x2 arg8 harg8 arg9 arg10 _ _ (xs_eq c arg1 harg1 arg2 harg2 x0 x1) (dy_eq c arg3 harg3 x2) 512 1792 inb_S2048x1024_S512x1024_512_0 inb_S1024x2304_S1024x256_0_1792 inb_S2048x2304_S512x256_512_1792 inb_S2048x2304_S512x256_512_1792 x)
  refine List.forall_mem_cons.mpr ⟨fun x => ?_, ?_⟩
  exact (congrFun (tile_28 _ _ _) x).trans (tile_at xs0 x0 x1 x2 arg8 harg8 arg9 arg10 _ _ (xs_eq c arg1 harg1 arg2 harg2 x0 x1) (dy_eq c arg3 harg3 x2) 0 1792 inb_S2048x1024_S512x1024_0_0 inb_S1024x2304_S1024x256_0_1792 inb_S2048x2304_S512x256_0_1792 inb_S2048x2304_S512x256_0_1792 x)
  refine List.forall_mem_cons.mpr ⟨fun x => ?_, ?_⟩
  exact (congrFun (tile_27 _ _ _) x).trans (tile_at xs0 x0 x1 x2 arg8 harg8 arg9 arg10 _ _ (xs_eq c arg1 harg1 arg2 harg2 x0 x1) (dy_eq c arg3 harg3 x2) 1536 1536 inb_S2048x1024_S512x1024_1536_0 inb_S1024x2304_S1024x256_0_1536 inb_S2048x2304_S512x256_1536_1536 inb_S2048x2304_S512x256_1536_1536 x)
  refine List.forall_mem_cons.mpr ⟨fun x => ?_, ?_⟩
  exact (congrFun (tile_26 _ _ _) x).trans (tile_at xs0 x0 x1 x2 arg8 harg8 arg9 arg10 _ _ (xs_eq c arg1 harg1 arg2 harg2 x0 x1) (dy_eq c arg3 harg3 x2) 1024 1536 inb_S2048x1024_S512x1024_1024_0 inb_S1024x2304_S1024x256_0_1536 inb_S2048x2304_S512x256_1024_1536 inb_S2048x2304_S512x256_1024_1536 x)
  refine List.forall_mem_cons.mpr ⟨fun x => ?_, ?_⟩
  exact (congrFun (tile_25 _ _ _) x).trans (tile_at xs0 x0 x1 x2 arg8 harg8 arg9 arg10 _ _ (xs_eq c arg1 harg1 arg2 harg2 x0 x1) (dy_eq c arg3 harg3 x2) 512 1536 inb_S2048x1024_S512x1024_512_0 inb_S1024x2304_S1024x256_0_1536 inb_S2048x2304_S512x256_512_1536 inb_S2048x2304_S512x256_512_1536 x)
  refine List.forall_mem_cons.mpr ⟨fun x => ?_, ?_⟩
  exact (congrFun (tile_24 _ _ _) x).trans (tile_at xs0 x0 x1 x2 arg8 harg8 arg9 arg10 _ _ (xs_eq c arg1 harg1 arg2 harg2 x0 x1) (dy_eq c arg3 harg3 x2) 0 1536 inb_S2048x1024_S512x1024_0_0 inb_S1024x2304_S1024x256_0_1536 inb_S2048x2304_S512x256_0_1536 inb_S2048x2304_S512x256_0_1536 x)
  refine List.forall_mem_cons.mpr ⟨fun x => ?_, ?_⟩
  exact (congrFun (tile_23 _ _ _) x).trans (tile_at xs0 x0 x1 x2 arg8 harg8 arg9 arg10 _ _ (xs_eq c arg1 harg1 arg2 harg2 x0 x1) (dy_eq c arg3 harg3 x2) 1536 1280 inb_S2048x1024_S512x1024_1536_0 inb_S1024x2304_S1024x256_0_1280 inb_S2048x2304_S512x256_1536_1280 inb_S2048x2304_S512x256_1536_1280 x)
  refine List.forall_mem_cons.mpr ⟨fun x => ?_, ?_⟩
  exact (congrFun (tile_22 _ _ _) x).trans (tile_at xs0 x0 x1 x2 arg8 harg8 arg9 arg10 _ _ (xs_eq c arg1 harg1 arg2 harg2 x0 x1) (dy_eq c arg3 harg3 x2) 1024 1280 inb_S2048x1024_S512x1024_1024_0 inb_S1024x2304_S1024x256_0_1280 inb_S2048x2304_S512x256_1024_1280 inb_S2048x2304_S512x256_1024_1280 x)
  refine List.forall_mem_cons.mpr ⟨fun x => ?_, ?_⟩
  exact (congrFun (tile_21 _ _ _) x).trans (tile_at xs0 x0 x1 x2 arg8 harg8 arg9 arg10 _ _ (xs_eq c arg1 harg1 arg2 harg2 x0 x1) (dy_eq c arg3 harg3 x2) 512 1280 inb_S2048x1024_S512x1024_512_0 inb_S1024x2304_S1024x256_0_1280 inb_S2048x2304_S512x256_512_1280 inb_S2048x2304_S512x256_512_1280 x)
  refine List.forall_mem_cons.mpr ⟨fun x => ?_, ?_⟩
  exact (congrFun (tile_20 _ _ _) x).trans (tile_at xs0 x0 x1 x2 arg8 harg8 arg9 arg10 _ _ (xs_eq c arg1 harg1 arg2 harg2 x0 x1) (dy_eq c arg3 harg3 x2) 0 1280 inb_S2048x1024_S512x1024_0_0 inb_S1024x2304_S1024x256_0_1280 inb_S2048x2304_S512x256_0_1280 inb_S2048x2304_S512x256_0_1280 x)
  refine List.forall_mem_cons.mpr ⟨fun x => ?_, ?_⟩
  exact (congrFun (tile_19 _ _ _) x).trans (tile_at xs0 x0 x1 x2 arg8 harg8 arg9 arg10 _ _ (xs_eq c arg1 harg1 arg2 harg2 x0 x1) (dy_eq c arg3 harg3 x2) 1536 1024 inb_S2048x1024_S512x1024_1536_0 inb_S1024x2304_S1024x256_0_1024 inb_S2048x2304_S512x256_1536_1024 inb_S2048x2304_S512x256_1536_1024 x)
  refine List.forall_mem_cons.mpr ⟨fun x => ?_, ?_⟩
  exact (congrFun (tile_18 _ _ _) x).trans (tile_at xs0 x0 x1 x2 arg8 harg8 arg9 arg10 _ _ (xs_eq c arg1 harg1 arg2 harg2 x0 x1) (dy_eq c arg3 harg3 x2) 1024 1024 inb_S2048x1024_S512x1024_1024_0 inb_S1024x2304_S1024x256_0_1024 inb_S2048x2304_S512x256_1024_1024 inb_S2048x2304_S512x256_1024_1024 x)
  refine List.forall_mem_cons.mpr ⟨fun x => ?_, ?_⟩
  exact (congrFun (tile_17 _ _ _) x).trans (tile_at xs0 x0 x1 x2 arg8 harg8 arg9 arg10 _ _ (xs_eq c arg1 harg1 arg2 harg2 x0 x1) (dy_eq c arg3 harg3 x2) 512 1024 inb_S2048x1024_S512x1024_512_0 inb_S1024x2304_S1024x256_0_1024 inb_S2048x2304_S512x256_512_1024 inb_S2048x2304_S512x256_512_1024 x)
  refine List.forall_mem_cons.mpr ⟨fun x => ?_, ?_⟩
  exact (congrFun (tile_16 _ _ _) x).trans (tile_at xs0 x0 x1 x2 arg8 harg8 arg9 arg10 _ _ (xs_eq c arg1 harg1 arg2 harg2 x0 x1) (dy_eq c arg3 harg3 x2) 0 1024 inb_S2048x1024_S512x1024_0_0 inb_S1024x2304_S1024x256_0_1024 inb_S2048x2304_S512x256_0_1024 inb_S2048x2304_S512x256_0_1024 x)
  refine List.forall_mem_cons.mpr ⟨fun x => ?_, ?_⟩
  exact (congrFun (tile_15 _ _ _) x).trans (tile_at xs0 x0 x1 x2 arg8 harg8 arg9 arg10 _ _ (xs_eq c arg1 harg1 arg2 harg2 x0 x1) (dy_eq c arg3 harg3 x2) 1536 768 inb_S2048x1024_S512x1024_1536_0 inb_S1024x2304_S1024x256_0_768 inb_S2048x2304_S512x256_1536_768 inb_S2048x2304_S512x256_1536_768 x)
  refine List.forall_mem_cons.mpr ⟨fun x => ?_, ?_⟩
  exact (congrFun (tile_14 _ _ _) x).trans (tile_at xs0 x0 x1 x2 arg8 harg8 arg9 arg10 _ _ (xs_eq c arg1 harg1 arg2 harg2 x0 x1) (dy_eq c arg3 harg3 x2) 1024 768 inb_S2048x1024_S512x1024_1024_0 inb_S1024x2304_S1024x256_0_768 inb_S2048x2304_S512x256_1024_768 inb_S2048x2304_S512x256_1024_768 x)
  refine List.forall_mem_cons.mpr ⟨fun x => ?_, ?_⟩
  exact (congrFun (tile_13 _ _ _) x).trans (tile_at xs0 x0 x1 x2 arg8 harg8 arg9 arg10 _ _ (xs_eq c arg1 harg1 arg2 harg2 x0 x1) (dy_eq c arg3 harg3 x2) 512 768 inb_S2048x1024_S512x1024_512_0 inb_S1024x2304_S1024x256_0_768 inb_S2048x2304_S512x256_512_768 inb_S2048x2304_S512x256_512_768 x)
  refine List.forall_mem_cons.mpr ⟨fun x => ?_, ?_⟩
  exact (congrFun (tile_12 _ _ _) x).trans (tile_at xs0 x0 x1 x2 arg8 harg8 arg9 arg10 _ _ (xs_eq c arg1 harg1 arg2 harg2 x0 x1) (dy_eq c arg3 harg3 x2) 0 768 inb_S2048x1024_S512x1024_0_0 inb_S1024x2304_S1024x256_0_768 inb_S2048x2304_S512x256_0_768 inb_S2048x2304_S512x256_0_768 x)
  refine List.forall_mem_cons.mpr ⟨fun x => ?_, ?_⟩
  exact (congrFun (tile_11 _ _ _) x).trans (tile_at xs0 x0 x1 x2 arg8 harg8 arg9 arg10 _ _ (xs_eq c arg1 harg1 arg2 harg2 x0 x1) (dy_eq c arg3 harg3 x2) 1536 512 inb_S2048x1024_S512x1024_1536_0 inb_S1024x2304_S1024x256_0_512 inb_S2048x2304_S512x256_1536_512 inb_S2048x2304_S512x256_1536_512 x)
  refine List.forall_mem_cons.mpr ⟨fun x => ?_, ?_⟩
  exact (congrFun (tile_10 _ _ _) x).trans (tile_at xs0 x0 x1 x2 arg8 harg8 arg9 arg10 _ _ (xs_eq c arg1 harg1 arg2 harg2 x0 x1) (dy_eq c arg3 harg3 x2) 1024 512 inb_S2048x1024_S512x1024_1024_0 inb_S1024x2304_S1024x256_0_512 inb_S2048x2304_S512x256_1024_512 inb_S2048x2304_S512x256_1024_512 x)
  refine List.forall_mem_cons.mpr ⟨fun x => ?_, ?_⟩
  exact (congrFun (tile_9 _ _ _) x).trans (tile_at xs0 x0 x1 x2 arg8 harg8 arg9 arg10 _ _ (xs_eq c arg1 harg1 arg2 harg2 x0 x1) (dy_eq c arg3 harg3 x2) 512 512 inb_S2048x1024_S512x1024_512_0 inb_S1024x2304_S1024x256_0_512 inb_S2048x2304_S512x256_512_512 inb_S2048x2304_S512x256_512_512 x)
  refine List.forall_mem_cons.mpr ⟨fun x => ?_, ?_⟩
  exact (congrFun (tile_8 _ _ _) x).trans (tile_at xs0 x0 x1 x2 arg8 harg8 arg9 arg10 _ _ (xs_eq c arg1 harg1 arg2 harg2 x0 x1) (dy_eq c arg3 harg3 x2) 0 512 inb_S2048x1024_S512x1024_0_0 inb_S1024x2304_S1024x256_0_512 inb_S2048x2304_S512x256_0_512 inb_S2048x2304_S512x256_0_512 x)
  refine List.forall_mem_cons.mpr ⟨fun x => ?_, ?_⟩
  exact (congrFun (tile_7 _ _ _) x).trans (tile_at xs0 x0 x1 x2 arg8 harg8 arg9 arg10 _ _ (xs_eq c arg1 harg1 arg2 harg2 x0 x1) (dy_eq c arg3 harg3 x2) 1536 256 inb_S2048x1024_S512x1024_1536_0 inb_S1024x2304_S1024x256_0_256 inb_S2048x2304_S512x256_1536_256 inb_S2048x2304_S512x256_1536_256 x)
  refine List.forall_mem_cons.mpr ⟨fun x => ?_, ?_⟩
  exact (congrFun (tile_6 _ _ _) x).trans (tile_at xs0 x0 x1 x2 arg8 harg8 arg9 arg10 _ _ (xs_eq c arg1 harg1 arg2 harg2 x0 x1) (dy_eq c arg3 harg3 x2) 1024 256 inb_S2048x1024_S512x1024_1024_0 inb_S1024x2304_S1024x256_0_256 inb_S2048x2304_S512x256_1024_256 inb_S2048x2304_S512x256_1024_256 x)
  refine List.forall_mem_cons.mpr ⟨fun x => ?_, ?_⟩
  exact (congrFun (tile_5 _ _ _) x).trans (tile_at xs0 x0 x1 x2 arg8 harg8 arg9 arg10 _ _ (xs_eq c arg1 harg1 arg2 harg2 x0 x1) (dy_eq c arg3 harg3 x2) 512 256 inb_S2048x1024_S512x1024_512_0 inb_S1024x2304_S1024x256_0_256 inb_S2048x2304_S512x256_512_256 inb_S2048x2304_S512x256_512_256 x)
  refine List.forall_mem_cons.mpr ⟨fun x => ?_, ?_⟩
  exact (congrFun (tile_4 _ _ _) x).trans (tile_at xs0 x0 x1 x2 arg8 harg8 arg9 arg10 _ _ (xs_eq c arg1 harg1 arg2 harg2 x0 x1) (dy_eq c arg3 harg3 x2) 0 256 inb_S2048x1024_S512x1024_0_0 inb_S1024x2304_S1024x256_0_256 inb_S2048x2304_S512x256_0_256 inb_S2048x2304_S512x256_0_256 x)
  refine List.forall_mem_cons.mpr ⟨fun x => ?_, ?_⟩
  exact (congrFun (tile_3 _ _ _) x).trans (tile_at xs0 x0 x1 x2 arg8 harg8 arg9 arg10 _ _ (xs_eq c arg1 harg1 arg2 harg2 x0 x1) (dy_eq c arg3 harg3 x2) 1536 0 inb_S2048x1024_S512x1024_1536_0 inb_S1024x2304_S1024x256_0_0 inb_S2048x2304_S512x256_1536_0 inb_S2048x2304_S512x256_1536_0 x)
  refine List.forall_mem_cons.mpr ⟨fun x => ?_, ?_⟩
  exact (congrFun (tile_2 _ _ _) x).trans (tile_at xs0 x0 x1 x2 arg8 harg8 arg9 arg10 _ _ (xs_eq c arg1 harg1 arg2 harg2 x0 x1) (dy_eq c arg3 harg3 x2) 1024 0 inb_S2048x1024_S512x1024_1024_0 inb_S1024x2304_S1024x256_0_0 inb_S2048x2304_S512x256_1024_0 inb_S2048x2304_S512x256_1024_0 x)
  refine List.forall_mem_cons.mpr ⟨fun x => ?_, ?_⟩
  exact (congrFun (tile_1 _ _ _) x).trans (tile_at xs0 x0 x1 x2 arg8 harg8 arg9 arg10 _ _ (xs_eq c arg1 harg1 arg2 harg2 x0 x1) (dy_eq c arg3 harg3 x2) 512 0 inb_S2048x1024_S512x1024_512_0 inb_S1024x2304_S1024x256_0_0 inb_S2048x2304_S512x256_512_0 inb_S2048x2304_S512x256_512_0 x)
  refine List.forall_mem_cons.mpr ⟨fun x => ?_, ?_⟩
  exact (congrFun (tile_0 _ _ _) x).trans (tile_at xs0 x0 x1 x2 arg8 harg8 arg9 arg10 _ _ (xs_eq c arg1 harg1 arg2 harg2 x0 x1) (dy_eq c arg3 harg3 x2) 0 0 inb_S2048x1024_S512x1024_0_0 inb_S1024x2304_S1024x256_0_0 inb_S2048x2304_S512x256_0_0 inb_S2048x2304_S512x256_0_0 x)
  exact fun p hp => absurd hp List.not_mem_nil

/-- The result of the point's last copy is the accumulator after the point. -/
theorem res_eq (c : Dev nD) (i : grid0.Coords) (arg1 : Memref sig .tc .vmem S1024x2048 .fp8e4m3) (harg1 : arg1.IsWhole) (arg2 : Memref sig .tc .vmem S8x2048 .f32) (harg2 : arg2.IsWhole) (arg3 : Memref sig .tc .vmem S1024x2304 .bf16) (harg3 : arg3.IsWhole) (arg6 : Memref sig .tc .vmem S1024x2304 .fp8e5m2) (harg6 : arg6.IsWhole) (arg7 : Memref sig .tc .vmem S8x2304 .f32) (harg7 : arg7.IsWhole) (arg8 : Memref sig .tc .vmem S2048x2304 .f32) (harg8 : arg8.IsWhole) (arg9 : Memref sig .tc .vmem S2048x1024 .bf16) (harg9 : arg9.IsWhole) (arg10 : Memref sig .tc .vmem S1024x2304 .bf16) (harg10 : arg10.IsWhole) (hc0 : ¬cond0_0 i) (hc1 : cond0_1 i)
    (x0 : Vec Ideal S1024x2048 .fp8e4m3) (x1 : Vec Ideal S8x2048 .f32) (x2 : Vec Ideal S1024x2304 .bf16) (xs0 : Vec Ideal S2048x2304 .f32) (fh0 : HbBuf0 (F := Ideal) c hbM0_0) (fw1 : HbBuf0 (F := Ideal) c hbM0_1) :
    (kernelRun0_C c i arg1 harg1 arg2 harg2 arg3 harg3 arg6 harg6 arg7 harg7 arg8 harg8 arg9 harg9 arg10 harg10 hc0 hc1 x0 x1 x2 xs0 fh0 fw1).2.2.2.2.2.1 = acc xs0 x0 x1 x2 := by
  have h := acc_eq c i arg1 harg1 arg2 harg2 arg3 harg3 arg6 harg6 arg7 harg7 arg8 harg8 arg9 harg9 arg10 harg10 hc0 hc1 x0 x1 x2 xs0 fh0 fw1
  unfold sout0_C_0 at h
  rw [View.read_writes_eq_canon _ _ _ (fun y => by apply scover0_C_0)] at h
  have hc := fun y => scover0_C_0 c i arg1 harg1 arg2 harg2 arg3 harg3 arg6 harg6 arg7 harg7 arg8 harg8 arg9 harg9 arg10 harg10 hc0 hc1 x0 x1 x2 xs0 fh0 fw1 y
  generalize hR : kernelRun0_C c i arg1 harg1 arg2 harg2 arg3 harg3 arg6 harg6 arg7 harg7 arg8 harg8 arg9 harg9 arg10 harg10 hc0 hc1 x0 x1 x2 xs0 fh0 fw1 = R at h hc ⊢
  rw [← h, ← View.read_writes_eq_canon arg8.view (harg8.unread xs0) _ hc, ← hR]
  unfold kernelRun0_C
  dsimp only
  exact View.write_whole_univ _ _ _

end Cert.KernelIdeal.RunC

end
-- ==== Proof.Fold.lean ====
/-
  THE ACCUMULATOR OVER THE POINTS: after point `n` it holds what the first copy brought in plus every point's gain so far,
  and the last point's copy leaves that sum in the result.
-/
module

public import proofs.«01_k».proof.Proof.KernelValue
public import proofs.«01_k».proof.Proof.RunA
public import proofs.«01_k».proof.Proof.RunB
public import proofs.«01_k».proof.Proof.RunC

@[expose] public section

noncomputable section

namespace Cert.KernelIdeal.Fold

open Idealize.ShloMosaic Cert.KernelIdeal Cert.KernelIdeal.Gen Cert.KernelIdeal.Block Cert.KernelIdeal.Point Cert.KernelIdeal.Tiles
open Idealize.ShloMosaic.TcCoe Idealize.SL.Sem

variable (m : (ℓ : Loc nD τ sig) → Buf (Elt Ideal) ℓ) (c : Dev nD)

/-- The block of `x` of a point. -/
def b0 (t : Fin cfg0.N) : Vec Ideal S1024x2048 .fp8e4m3 := iblk m c 0 t
/-- The block of the scales of `x` of a point. -/
def b1 (t : Fin cfg0.N) : Vec Ideal S8x2048 .f32 := iblk m c 1 t
/-- The block of `dy` of a point. -/
def b2 (t : Fin cfg0.N) : Vec Ideal S1024x2304 .bf16 := iblk m c 2 t

/-- What point `n` adds to the accumulator. -/
def add (n : ℕ) (y : S2048x2304.Idx) : EReal :=
  if h : n < cfg0.N then gain (b0 m c ⟨n, h⟩) (b1 m c ⟨n, h⟩) (b2 m c ⟨n, h⟩) y else 0

/-- Every point writes the codes of its block. -/
theorem codes_at (t : Fin cfg0.N) : (outsAt0 m c t.val t.isLt).1 = codeAt (b2 m c t) := by
  by_cases h0 : t.val % 150 = 0
  · have h1 : ¬t.val % 150 = 149 := by omega
    rw [outsAt0_A m c t h0 h1]
    dsimp only
    exact RunA.codes_eq ..
  · by_cases h1 : t.val % 150 = 149
    · rw [outsAt0_C m c t h0 h1]
      dsimp only
      exact RunC.codes_eq ..
    · rw [outsAt0_B m c t h0 h1]
      dsimp only
      exact RunB.codes_eq ..

/-- Every point writes the scales of its block. -/
theorem scales_at (t : Fin cfg0.N) : (outsAt0 m c t.val t.isLt).2.1 = scaleAt (b2 m c t) := by
  by_cases h0 : t.val % 150 = 0
  · have h1 : ¬t.val % 150 = 149 := by omega
    rw [outsAt0_A m c t h0 h1]
    dsimp only
    exact RunA.scales_eq ..
  · by_cases h1 : t.val % 150 = 149
    · rw [outsAt0_C m c t h0 h1]
      dsimp only
      exact RunC.scales_eq ..
    · rw [outsAt0_B m c t h0 h1]
      dsimp only
      exact RunB.scales_eq ..

/-- The first point starts from the copied array. -/
theorem acc_A (t : Fin cfg0.N) (h0 : t.val % 150 = 0) :
    (outsAt0 m c t.val t.isLt).2.2.1 = acc (RunA.start c (V m c main_arg3)) (b0 m c t) (b1 m c t) (b2 m c t) := by
  have h1 : ¬t.val % 150 = 149 := by omega
  rw [outsAt0_A m c t h0 h1]
  dsimp only
  exact RunA.acc_eq ..

/-- Every other point adds to what the point before left. -/
theorem acc_BC (t : Fin cfg0.N) (h0 : ¬t.val % 150 = 0) :
    (outsAt0 m c t.val t.isLt).2.2.1
      = acc (outsAt0 m c (t.val - 1) (Nat.lt_of_le_of_lt (Nat.sub_le _ _) t.isLt)).2.2.1 (b0 m c t) (b1 m c t) (b2 m c t) := by
  by_cases h1 : t.val % 150 = 149
  · rw [outsAt0_C m c t h0 h1]
    dsimp only
    exact RunC.acc_eq ..
  · rw [outsAt0_B m c t h0 h1]
    dsimp only
    exact RunB.acc_eq ..

/-- The last point copies its accumulator out. -/
theorem res_C (t : Fin cfg0.N) (h1 : t.val % 150 = 149) :
    (outsAt0 m c t.val t.isLt).2.2.2
      = acc (outsAt0 m c (t.val - 1) (Nat.lt_of_le_of_lt (Nat.sub_le _ _) t.isLt)).2.2.1 (b0 m c t) (b1 m c t) (b2 m c t) := by
  have h0 : ¬t.val % 150 = 0 := by omega
  rw [outsAt0_C m c t h0 h1]
  dsimp only
  exact RunC.res_eq ..

/-- The accumulator after point `n`. -/
theorem acc_sum (n : ℕ) (hn : n < cfg0.N) (y : S2048x2304.Idx) :
    (outsAt0 m c n hn).2.2.1 y = RunA.start c (V m c main_arg3) y + ∑ k ∈ Finset.range (n + 1), add m c k y := by
  induction n with
  | zero =>
    rw [acc_A m c ⟨0, hn⟩ rfl, Finset.sum_range_one, add, dif_pos hn]
    rfl
  | succ n ih =>
    have hN := lt_of_lt_of_eq hn (show cfg0.N = 150 from N_0)
    have e := congrFun (acc_BC m c ⟨n + 1, hn⟩ (by show ¬(n + 1) % 150 = 0; omega)) y
    rw [Finset.sum_range_succ, ← add_assoc, ← ih (Nat.lt_of_succ_lt hn), add, dif_pos hn]
    exact e

/-- The result after the last point. -/
theorem res_sum (n : ℕ) (hn : n < cfg0.N) (h : n = 149) (y : S2048x2304.Idx) :
    (outsAt0 m c n hn).2.2.2 y = RunA.start c (V m c main_arg3) y + ∑ k ∈ Finset.range 150, add m c k y := by
  obtain ⟨p, rfl⟩ : ∃ p, n = p + 1 := ⟨n - 1, by omega⟩
  have e := congrFun (res_C m c ⟨p + 1, hn⟩ (by show (p + 1) % 150 = 149; omega)) y
  have e' : (150 : ℕ) = p + 1 + 1 := by omega
  rw [e', Finset.sum_range_succ, ← add_assoc, ← acc_sum m c p (Nat.lt_of_succ_lt hn) y, add, dif_pos hn]
  exact e

end Cert.KernelIdeal.Fold

end
-- ==== Proof.Spec.lean ====
/-
  WHAT BOTH PROGRAMS COMPUTE, as functions of the arguments: `x` (10 × 15360 tokens × 2048), its scales (10 × 120 blocks × 2048),
  `dy` (10 × 15360 tokens × 2304) and the gradient so far (2048 × 2304). A token is a number below 153600, a block of 128 tokens a
  number below 1200. The kernel's scale of a block is `Scale.kscale` of its largest magnitude and it multiplies by `Scale.kinv`.
-/
module

public import proofs.«01_k».proof.Proof.Block
public import proofs.«01_k».proof.Proof.Scale

@[expose] public section

noncomputable section

namespace Cert.Spec

open Idealize.ShloMosaic Cert.KernelIdeal.Block

/-- The arguments, flattened to tokens and blocks. -/
abbrev Arr3 (a b c : ℕ) := Shape.Idx (⟨3, ![a, b, c]⟩ : Shape) → EReal

/-- `x` at a token. -/
def xs0 (x : Arr3 10 15360 2048) (k : Fin 153600) (d : Fin 2048) : EReal :=
  x (ix3 (⟨k.val / 15360, by omega⟩ : Fin 10) (⟨k.val % 15360, by omega⟩ : Fin 15360) d)

/-- The scale of `x` at a block. -/
def xs1 (s : Arr3 10 120 2048) (b : Fin 1200) (d : Fin 2048) : EReal :=
  s (ix3 (⟨b.val / 120, by omega⟩ : Fin 10) (⟨b.val % 120, by omega⟩ : Fin 120) d)

/-- `dy` at a token. -/
def dys (dy : Arr3 10 15360 2304) (k : Fin 153600) (j : Fin 2304) : EReal :=
  dy (ix3 (⟨k.val / 15360, by omega⟩ : Fin 10) (⟨k.val % 15360, by omega⟩ : Fin 15360) j)

/-- The block of a token. -/
def blk (k : Fin 153600) : Fin 1200 := ⟨k.val / 128, by omega⟩

/-- The token `x` of a block. -/
def tok (b : Fin 1200) (x : Fin 128) : Fin 153600 := ⟨128 * b.val + x.val, by omega⟩

/-- The largest magnitude of column `j` in block `b`. -/
def amaxAt (dy : Arr3 10 15360 2304) (b : Fin 1200) (j : Fin 2304) : EReal :=
  Finset.fold max (Ideal.ofBits FTy.bf16 65408#16)
    (fun x : Fin 128 => FloatOps.absf (F := Ideal) (φ := .bf16) (dys dy (tok b x) j)) Finset.univ

/-- The scale of block `b`, column `j`. -/
def scale (dy : Arr3 10 15360 2304) (b : Fin 1200) (j : Fin 2304) : EReal := Scale.kscale (amaxAt dy b j)

/-- The code of token `k`, column `j`. -/
def code (dy : Arr3 10 15360 2304) (k : Fin 153600) (j : Fin 2304) : EReal :=
  clip (dys dy k j) (Scale.kinv (amaxAt dy (blk k) j))

/-- What token `k` adds to the gradient at `(d, j)`. -/
def term (x : Arr3 10 15360 2048) (s : Arr3 10 120 2048) (dy : Arr3 10 15360 2304) (d : Fin 2048) (j : Fin 2304)
    (k : Fin 153600) : EReal :=
  xs0 x k d * xs1 s (blk k) d * (code dy k j * scale dy (blk k) j)

/-- The gradient at `(d, j)`. -/
def grad (x : Arr3 10 15360 2048) (s : Arr3 10 120 2048) (dy : Arr3 10 15360 2304)
    (g : Shape.Idx (⟨2, ![2048, 2304]⟩ : Shape) → EReal) (d : Fin 2048) (j : Fin 2304) : EReal :=
  g (ix2 d j) + ∑ k : Fin 153600, term x s dy d j k

end Cert.Spec

end
-- ==== Proof.KernelArrays.lean ====
/-
  THE KERNEL'S THREE RESULTS as functions of its arguments (`Spec`): every point writes the codes and scales of its own 1024
  tokens, and the accumulator adds up all 150 points.
-/
module

public import proofs.«01_k».proof.Proof.Fold
public import proofs.«01_k».proof.Proof.Spec
public import Idealize.ShloMosaic.Lib.Claim
public import Idealize.ShloMosaic.Lib.Pointwise
public import Idealize.ShloMosaic.Lib.Pipeline.ValueKit

@[expose] public section

noncomputable section

namespace Cert.KernelIdeal.Arrays

open Idealize.ShloMosaic Cert.KernelIdeal Cert.KernelIdeal.Gen Cert.KernelIdeal.Block Cert.KernelIdeal.Point Cert.KernelIdeal.Fold
open Idealize.ShloMosaic.TcCoe Idealize.SL.Sem

variable (m : (ℓ : Loc nD τ sig) → Buf (Elt Ideal) ℓ) (c : Dev nD)

/-! ## The arguments and the blocks read from them -/

/-- `x`. -/
abbrev X : Spec.Arr3 10 15360 2048 := m ((c : Thread nD τ).loc main_arg0)
/-- The scales of `x`. -/
abbrev S : Spec.Arr3 10 120 2048 := m ((c : Thread nD τ).loc main_arg1)
/-- `dy`. -/
abbrev D : Spec.Arr3 10 15360 2304 := m ((c : Thread nD τ).loc main_arg2)
/-- The gradient so far. -/
abbrev G : Shape.Idx (⟨2, ![2048, 2304]⟩ : Shape) → EReal := m ((c : Thread nD τ).loc main_arg3)

/-- Every window moves with the point along the rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0])

theorem point_lt (t : Fin cfg0.N) : t.val < 150 := lt_of_lt_of_eq t.isLt (show cfg0.N = 150 from N_0)

/-- Row `r` of point `t`'s tokens. -/
def row (t : Fin cfg0.N) (r : Fin 1024) : Fin 153600 := ⟨1024 * t.val + r.val, by have := point_lt t; omega⟩
/-- Block `b` of point `t`'s blocks. -/
def blk (t : Fin cfg0.N) (b : Fin 8) : Fin 1200 := ⟨8 * t.val + b.val, by have := point_lt t; omega⟩

theorem row_blk (t : Fin cfg0.N) (r : Fin 1024) : Spec.blk (row t r) = blk t (blockOf r) :=
  Fin.ext (show (1024 * t.val + r.val) / 128 = 8 * t.val + r.val / 128 by omega)

theorem tok_blk (t : Fin cfg0.N) (b : Fin 8) (x : Fin 128) :
    Spec.tok (blk t b) x = row t ⟨128 * b.val + x.val, by omega⟩ :=
  Fin.ext (show 128 * (8 * t.val + b.val) + x.val = 1024 * t.val + (128 * b.val + x.val) by omega)

theorem v0_apply (k : Fin 153600) (d : Fin 2048) : V m c main_v0 (ix2 k d) = Spec.xs0 (X m c) k d := by
  unfold Spec.xs0
  entry_read
  pointwise

theorem v1_apply (b : Fin 1200) (d : Fin 2048) : V m c main_v1 (ix2 b d) = Spec.xs1 (S m c) b d := by
  unfold Spec.xs1
  entry_read
  pointwise

theorem v2_apply (k : Fin 153600) (j : Fin 2304) : V m c main_v2 (ix2 k j) = Spec.dys (D m c) k j := by
  unfold Spec.dys
  entry_read
  pointwise

theorem b0_apply (t : Fin cfg0.N) (r : Fin 1024) (d : Fin 2048) : b0 m c t (ix2 r d) = Spec.xs0 (X m c) (row t r) d := by
  rw [← v0_apply]
  unfold b0 row
  have := point_lt t
  blk_ext [iblk, idx t]

theorem b1_apply (t : Fin cfg0.N) (b : Fin 8) (d : Fin 2048) : b1 m c t (ix2 b d) = Spec.xs1 (S m c) (blk t b) d := by
  rw [← v1_apply]
  unfold b1 blk
  have := point_lt t
  blk_ext [iblk, idx t]

theorem b2_apply (t : Fin cfg0.N) (r : Fin 1024) (j : Fin 2304) : b2 m c t (ix2 r j) = Spec.dys (D m c) (row t r) j := by
  rw [← v2_apply]
  unfold b2 row
  have := point_lt t
  blk_ext [iblk, idx t]

/-! ## A point's codes, scales and gain -/

theorem amax_eq (t : Fin cfg0.N) (b : Fin 8) (j : Fin 2304) : amaxB (b2 m c t) b j = Spec.amaxAt (D m c) (blk t b) j := by
  unfold amaxB Spec.amaxAt
  congr 1
  funext x
  rw [b2_apply, tok_blk]

theorem code_eq (t : Fin cfg0.N) (r : Fin 1024) (j : Fin 2304) : codeAt (b2 m c t) (ix2 r j) = Spec.code (D m c) (row t r) j := by
  show clip (b2 m c t (ix2 r j)) (Scale.kinv (amaxB (b2 m c t) (blockOf r) j)) = _
  rw [b2_apply, amax_eq, ← row_blk]
  rfl

theorem scale_eq (t : Fin cfg0.N) (b : Fin 8) (j : Fin 2304) : scaleAt (b2 m c t) (ix2 b j) = Spec.scale (D m c) (blk t b) j := by
  show Scale.kscale (amaxB (b2 m c t) b j) = _
  rw [amax_eq]
  rfl

theorem gain_eq (t : Fin cfg0.N) (d : Fin 2048) (j : Fin 2304) :
    gain (b0 m c t) (b1 m c t) (b2 m c t) (ix2 d j) = ∑ r : Fin 1024, Spec.term (X m c) (S m c) (D m c) d j (row t r) := by
  show (∑ r : Fin 1024, b0 m c t (ix2 r d) * b1 m c t (ix2 (blockOf r) d)
    * (codeAt (b2 m c t) (ix2 r j) * Scale.kscale (amaxB (b2 m c t) (blockOf r) j))) = _
  refine Finset.sum_congr rfl fun r _ => ?_
  rw [b0_apply, b1_apply, code_eq, amax_eq, ← row_blk]
  rfl

/-! ## The three results -/

/-- The codes. -/
theorem codes (k : Fin 153600) (j : Fin 2304) : (dats m 0 c).arrAt 3 cfg0.N (ix2 k j) = Spec.code (D m c) k j := by
  have e : (dats m 0 c).arrAt 3 cfg0.N = fun i : S153600x2304.Idx => Spec.code (D m c) (i 0) (i 1) := by
    refine (dats m 0 c).arrAt_eq_of_covers 3 _ (by decide +kernel) fun t hf y => ?_
    blk_simp
    rw [after0_3, codes_at]
    obtain ⟨r, j', rfl⟩ : ∃ (r : Fin 1024) (j' : Fin 2304), y = ix2 r j' := ⟨y 0, y 1, eq_ix2 y⟩
    refine (code_eq m c t r j').trans ?_
    congr 1
    · refine Fin.ext ?_
      unfold row
      blk_simp [idx t]
      show 1024 * t.val + r.val = t.val * 1024 + r.val
      omega
    · refine Fin.ext ?_
      blk_simp [idx t]
  rw [e]
  rfl

/-- The scales. -/
theorem scales (b : Fin 1200) (j : Fin 2304) : (dats m 0 c).arrAt 4 cfg0.N (ix2 b j) = Spec.scale (D m c) b j := by
  have e : (dats m 0 c).arrAt 4 cfg0.N = fun i : S1200x2304.Idx => Spec.scale (D m c) (i 0) (i 1) := by
    refine (dats m 0 c).arrAt_eq_of_covers 4 _ (by decide +kernel) fun t hf y => ?_
    blk_simp
    rw [after0_4, scales_at]
    obtain ⟨r, j', rfl⟩ : ∃ (r : Fin 8) (j' : Fin 2304), y = ix2 r j' := ⟨y 0, y 1, eq_ix2 y⟩
    refine (scale_eq m c t r j').trans ?_
    congr 1
    · refine Fin.ext ?_
      unfold blk
      blk_simp [idx t]
      show 8 * t.val + r.val = t.val * 8 + r.val
      omega
    · refine Fin.ext ?_
      blk_simp [idx t]
  rw [e]
  rfl

/-- All points' gains are all tokens' terms. -/
theorem gains (d : Fin 2048) (j : Fin 2304) :
    ∑ k ∈ Finset.range 150, add m c k (ix2 d j) = ∑ k : Fin 153600, Spec.term (X m c) (S m c) (D m c) d j k := by
  rw [Finset.sum_range]
  have e : ∀ i : Fin 150, add m c i.val (ix2 d j)
      = ∑ r : Fin 1024, Spec.term (X m c) (S m c) (D m c) d j ⟨i.val * 1024 + r.val, by omega⟩ := fun i => by
    have hi : i.val < cfg0.N := lt_of_lt_of_eq i.isLt (show cfg0.N = 150 from N_0).symm
    rw [add, dif_pos hi, gain_eq]
    refine Finset.sum_congr rfl fun r _ => ?_
    congr 1
    exact Fin.ext (show 1024 * i.val + r.val = i.val * 1024 + r.val by omega)
  rw [Finset.sum_congr rfl fun i _ => e i]
  exact Fin.sum_mul_add_fin 150 1024 (Spec.term (X m c) (S m c) (D m c) d j)

/-- The last point is number 149. -/
theorem last : (Fin.last cfg0.N).val - 1 = 149 := congrArg (fun n => n - 1) (show cfg0.N = 150 from N_0)

/-- The gradient. -/
theorem grad (n : ℕ) (hn : n < cfg0.N) (h : n = 149) (d : Fin 2048) (j : Fin 2304) :
    (outsAt0 m c n hn).2.2.2 (ix2 d j) = Spec.grad (X m c) (S m c) (D m c) (G m c) d j := by
  rw [res_sum m c n hn h, gains, V_main_arg3]
  rfl

end Cert.KernelIdeal.Arrays

end
-- ==== Proof.ReferenceBody.lean ====
/-
  THE REFERENCE'S BODY READ AT AN INDEX: first each operation alone, then the scales, the codes and the gradient.
-/
module

public import proofs.«01_k».proof.Proof.Gen.ReferenceIdeal.Value
public import proofs.«01_k».proof.Proof.Spec
public import Idealize.ShloMosaic.Lib.Claim
public import Idealize.ShloMosaic.Lib.Pointwise
public import Idealize.ShloMosaic.Lib.Pipeline.ValueKit

@[expose] public section

noncomputable section

namespace Cert.ReferenceIdeal.Body

open Idealize.ShloMosaic Cert.ReferenceIdeal Cert.ReferenceIdeal.Gen

/-! ## The operations -/

theorem flat (w : FVec Ideal S1200x128x2304 .fp8e5m2) (k : Fin 153600) (j : Fin 2304) :
    shapeCast S153600x2304 w shapeCasts_S1200x128x2304_S153600x2304 (ix2 k j)
      = w (ix3 (⟨k.val / 128, by omega⟩ : Fin 1200) (⟨k.val % 128, by omega⟩ : Fin 128) j) := by
  pointwise

theorem same (w : Vec Ideal S1200x128x2304 .bf16) (b : Fin 1200) (x : Fin 128) (j : Fin 2304) :
    shapeCast S1200x128x2304 w shapeCasts_S1200x128x2304_S1200x128x2304 (ix3 b x j) = w (ix3 b x j) := by
  pointwise

theorem spread (w : FVec Ideal S1200x2304 .f32) (b : Fin 1200) (x : Fin 128) (j : Fin 2304) :
    broadcastTo S1200x128x2304 (shapeCast S1200x1x2304 w shapeCasts_S1200x2304_S1200x1x2304)
      broadcasts_S1200x1x2304_S1200x128x2304 (ix3 b x j) = w (ix2 b j) := by
  pointwise

theorem spread_k (w : FVec Ideal S1200x2304 .f32) (k : Fin 253) (b : Fin 1200) (j : Fin 2304) :
    broadcastTo S253x1200x2304 (shapeCast S1x1200x2304 w shapeCasts_S1200x2304_S1x1200x2304)
      broadcasts_S1x1200x2304_S253x1200x2304 (ix3 k b j) = w (ix2 b j) := by
  pointwise

theorem inverse (w : FVec Ideal S1200x2304 .f32) (b : Fin 1200) (j : Fin 2304) :
    divf (broadcast S1200x2304 (Scalar.ofBits (F := Ideal) .f32 0x3F800000#32)) w (ix2 b j) = Ideal.div 1 (w (ix2 b j)) := by
  pointwise

theorem cut (w : FVec Ideal S1200x128x2304 .f32) (b : Fin 1200) (x : Fin 128) (j : Fin 2304) :
    minimumf (broadcast S1200x128x2304 (Scalar.ofBits (F := Ideal) .f32 0x47600000#32))
      (maximumf (broadcast S1200x128x2304 (Scalar.ofBits (F := Ideal) .f32 0xC7600000#32)) w) (ix3 b x j)
      = min (Ideal.ofBits FTy.f32 1197473792#32) (max (Ideal.ofBits FTy.f32 3344957440#32) (w (ix3 b x j))) := by
  pointwise

theorem largest (v : FVec Ideal S1200x128x2304 .f32) (b : Fin 1200) (j : Fin 2304) :
    multiReduction .maximumf [1] S1200x2304 v 0xFF800000#32 reduces_S1200x128x2304_S1200x2304 (.inl rfl) rfl (ix2 b j)
      = Finset.fold max (Ideal.ofBits FTy.f32 4286578688#32) (fun x : Fin 128 => v (ix3 b x j)) Finset.univ := by
  pointwise

theorem least (v : FVec Ideal S253x1200x2304 .f32) (b : Fin 1200) (j : Fin 2304) :
    multiReduction .minimumf [0] S1200x2304 v 0x7F800000#32 reduces_S253x1200x2304_S1200x2304 (.inl rfl) rfl (ix2 b j)
      = Finset.fold min (Ideal.ofBits FTy.f32 2139095040#32) (fun x : Fin 253 => v (ix3 x b j)) Finset.univ := by
  pointwise

/-- The power of two that `jnp.power` gives. -/
def pow2 (k : Fin 253) : EReal :=
  FloatOps.exp2 (F := Ideal) (φ := .f32) (FloatOps.sitofp FTy.f32 (IntOp.subi (BitVec.ofNat 32 k.val) 125#32))

/-- The powers of two, one to a row. -/
def pvec : FVec Ideal S253x1200x2304 .f32 :=
  exp2 (sitofp (F := Ideal) .f32 (subi (iota .tc S253x1200x2304 32 [0] iota_S253x1200x2304_d0_w32)
    (broadcast S253x1200x2304 125#32)))

theorem pvec_apply (k : Fin 253) (b : Fin 1200) (j : Fin 2304) : pvec (ix3 k b j) = pow2 k := by
  unfold pow2 pvec
  pointwise

/-- What frexp reads. -/
def tvec (a : FVec Ideal S1200x2304 .f32) : FVec Ideal S1200x2304 .f32 :=
  mulf a (broadcast S1200x2304 (Scalar.ofBits (F := Ideal) .f32 0x37924925#32))

theorem tvec_apply (a : FVec Ideal S1200x2304 .f32) (b : Fin 1200) (j : Fin 2304) :
    tvec a (ix2 b j) = a (ix2 b j) * Ideal.ofBits FTy.f32 932333861#32 := by
  unfold tvec
  pointwise

theorem pick (p w : FVec Ideal S253x1200x2304 .f32) (k : Fin 253) (b : Fin 1200) (j : Fin 2304) :
    select (cmpf .olt w p) p (broadcast S253x1200x2304 (Scalar.ofBits (F := Ideal) .f32 0x7F800000#32)) (ix3 k b j)
      = if w (ix3 k b j) < p (ix3 k b j) then p (ix3 k b j) else Ideal.ofBits FTy.f32 2139095040#32 := by
  pointwise

theorem either (u c e z : EReal) :
    Scalar.select (IntOp.ori (BitVec.ofBool (decide (u < c))) (BitVec.ofBool (decide (u = e)))) (1 : EReal) z
      = if u < c ∨ u = e then 1 else z := by
  by_cases h1 : u < c
  · rw [if_pos (Or.inl h1), decide_eq_true h1]
    cases decide (u = e) <;> rfl
  · rw [decide_eq_false h1]
    by_cases h2 : u = e
    · rw [if_pos (Or.inr h2), decide_eq_true h2]
      rfl
    · rw [if_neg (not_or.mpr ⟨h1, h2⟩), decide_eq_false h2]
      rfl

theorem guard (t w : FVec Ideal S1200x2304 .f32) (b : Fin 1200) (j : Fin 2304) :
    select (ori (cmpf .olt t (broadcast S1200x2304 (Scalar.ofBits (F := Ideal) .f32 0x00800000#32)))
      (cmpf .oeq t (broadcast S1200x2304 (Scalar.ofBits (F := Ideal) .f32 0x7F800000#32))))
      (broadcast S1200x2304 (Scalar.ofBits (F := Ideal) .f32 0x3F800000#32)) w (ix2 b j)
      = if t (ix2 b j) < Ideal.ofBits FTy.f32 8388608#32 ∨ t (ix2 b j) = Ideal.ofBits FTy.f32 2139095040#32 then 1 else w (ix2 b j) := by
  pointwise
  generalize t (ix2 b j) = u
  generalize w (ix2 b j) = z
  generalize Ideal.ofBits FTy.f32 8388608#32 = c
  generalize Ideal.ofBits FTy.f32 2139095040#32 = e
  exact either u c e z

/-! ## The scales, the codes, the gradient -/

/-- The reference's largest magnitude in a block. -/
def amaxR (v : Vec Ideal S1200x128x2304 .bf16) (b : Fin 1200) (j : Fin 2304) : EReal :=
  Finset.fold max (Ideal.ofBits FTy.f32 4286578688#32)
    (fun x : Fin 128 => FloatOps.absf (F := Ideal) (φ := .bf16) (v (ix3 b x j))) Finset.univ

/-- The reference's scale at what frexp reads. -/
def pick2 (t : EReal) : EReal :=
  if t < Ideal.ofBits FTy.f32 8388608#32 ∨ t = Ideal.ofBits FTy.f32 2139095040#32 then 1
  else Finset.fold min (Ideal.ofBits FTy.f32 2139095040#32)
    (fun k : Fin 253 => if t < pow2 k then pow2 k else Ideal.ofBits FTy.f32 2139095040#32) Finset.univ

/-- The largest magnitudes. -/
def amaxes (v : Vec Ideal S1200x128x2304 .bf16) : FVec Ideal S1200x2304 .f32 :=
  multiReduction .maximumf [1] S1200x2304 (absf (k0_pay3 v)) 0xFF800000#32 reduces_S1200x128x2304_S1200x2304 (.inl rfl) rfl

theorem size (v : Vec Ideal S1200x128x2304 .bf16) (b : Fin 1200) (x : Fin 128) (j : Fin 2304) :
    absf (k0_pay3 v) (ix3 b x j) = FloatOps.absf (F := Ideal) (φ := .bf16) (v (ix3 b x j)) := by
  pointwise [k0_pay3]
  rfl

theorem amaxes_apply (v : Vec Ideal S1200x128x2304 .bf16) (b : Fin 1200) (j : Fin 2304) : amaxes v (ix2 b j) = amaxR v b j := by
  unfold amaxes amaxR
  rw [largest]
  congr 1
  funext x
  exact size v b x j

/-- The scales of what frexp reads and the powers of two. -/
def scales (t : FVec Ideal S1200x2304 .f32) (p : FVec Ideal S253x1200x2304 .f32) : FVec Ideal S1200x2304 .f32 :=
  select (ori (cmpf .olt t (broadcast S1200x2304 (Scalar.ofBits (F := Ideal) .f32 0x00800000#32)))
      (cmpf .oeq t (broadcast S1200x2304 (Scalar.ofBits (F := Ideal) .f32 0x7F800000#32))))
      (broadcast S1200x2304 (Scalar.ofBits (F := Ideal) .f32 0x3F800000#32))
      (multiReduction .minimumf [0] S1200x2304
        (select (cmpf .olt (broadcastTo S253x1200x2304 (shapeCast S1x1200x2304 t shapeCasts_S1200x2304_S1x1200x2304)
          broadcasts_S1x1200x2304_S253x1200x2304) p) p (broadcast S253x1200x2304 (Scalar.ofBits (F := Ideal) .f32 0x7F800000#32)))
        0x7F800000#32 reduces_S253x1200x2304_S1200x2304 (.inl rfl) rfl)

theorem scales_apply (t : FVec Ideal S1200x2304 .f32) (b : Fin 1200) (j : Fin 2304) :
    scales t pvec (ix2 b j) = pick2 (t (ix2 b j)) := by
  unfold scales pick2
  rw [guard, least]
  congr 2
  funext k
  rw [pick, spread_k, pvec_apply]

theorem pay4_eq (v : Vec Ideal S1200x128x2304 .bf16) : k0_pay4 v = scales (tvec (amaxes v)) pvec := rfl

theorem scale_apply (v : Vec Ideal S1200x128x2304 .bf16) (b : Fin 1200) (j : Fin 2304) :
    k0_pay4 v (ix2 b j) = pick2 (amaxR v b j * Ideal.ofBits FTy.f32 932333861#32) := by
  rw [pay4_eq, scales_apply, tvec_apply, amaxes_apply]

theorem code3_apply (v : Vec Ideal S1200x128x2304 .bf16) (b : Fin 1200) (x : Fin 128) (j : Fin 2304) :
    k0_pay5 v (ix3 b x j) = KernelIdeal.Block.clip (v (ix3 b x j)) (Ideal.div 1 (k0_pay4 v (ix2 b j))) := by
  unfold k0_pay5
  generalize k0_pay4 v = w
  refine (cut _ b x j).trans ?_
  unfold KernelIdeal.Block.clip
  refine congrArg (fun e => min (Ideal.ofBits FTy.f32 1197473792#32) (max (Ideal.ofBits FTy.f32 3344957440#32) e)) ?_
  exact congrArg₂ (fun e f : EReal => e * f) (same v b x j) ((spread _ b x j).trans (inverse w b j))

theorem code_apply (v : Vec Ideal S1200x128x2304 .bf16) (k : Fin 153600) (j : Fin 2304) :
    k0_pay2 (k0_pay5 v) (ix2 k j)
      = KernelIdeal.Block.clip (v (ix3 (⟨k.val / 128, by omega⟩ : Fin 1200) (⟨k.val % 128, by omega⟩ : Fin 128) j))
        (Ideal.div 1 (k0_pay4 v (ix2 (⟨k.val / 128, by omega⟩ : Fin 1200) j))) := by
  rw [← code3_apply]
  unfold k0_pay2
  exact flat (k0_pay5 v) k j

theorem grad_apply (sc : FVec Ideal S1200x2304 .f32) (q : FVec Ideal S1200x128x2304 .fp8e5m2) (x : Vec Ideal S1200x128x2048 .fp8e4m3)
    (s : Vec Ideal S1200x2048 .f32) (g : Vec Ideal S2048x2304 .f32) (d : Fin 2048) (j : Fin 2304) :
    k0_pay1 sc q (k0_pay6 x) (k0_pay7 s) g (ix2 d j)
      = (g (ix2 d j) : EReal) + ∑ k : Fin 153600,
        x (ix3 (⟨k.val / 128, by omega⟩ : Fin 1200) (⟨k.val % 128, by omega⟩ : Fin 128) d) * s (ix2 (⟨k.val / 128, by omega⟩ : Fin 1200) d) *
          (q (ix3 (⟨k.val / 128, by omega⟩ : Fin 1200) (⟨k.val % 128, by omega⟩ : Fin 128) j) * sc (ix2 (⟨k.val / 128, by omega⟩ : Fin 1200) j)) := by
  pointwise [k0_pay1, k0_pay6, k0_pay7]

end Cert.ReferenceIdeal.Body

end
-- ==== Proof.Equal.lean ====
/-
  THE TWO SCALES AGREE: for the numbers of bf16 the reference's scale of a block (the least power of two above what frexp reads)
  is the kernel's, and one over it is what the kernel multiplies by.
-/
module

public import proofs.«01_k».proof.Proof.ReferenceBody
public import proofs.«01_k».proof.Proof.Gen.Pre_bf16_numbers

@[expose] public section

noncomputable section

namespace Cert.Equal

open Idealize.ShloMosaic Cert.ReferenceIdeal.Body

/-! ## The constants -/

theorem exponent : ∀ k : Fin 253, (IntOp.subi (BitVec.ofNat 32 k.val) 125#32).toInt = (k.val : ℤ) - 125 := by decide +kernel

theorem pow2_eq (k : Fin 253) : pow2 k = Scale.power k := by
  show ((Real.rpow 2 (((IntOp.subi (BitVec.ofNat 32 k.val) 125#32).toInt : ℤ) : ℝ) : ℝ) : EReal) = _
  rw [exponent k]
  exact congrArg Real.toEReal (Real.rpow_intCast 2 _)

theorem tiny : Ideal.ofBits FTy.f32 8388608#32 = (((2 : ℝ) ^ (-126 : ℤ) : ℝ) : EReal) :=
  Scale.ofBits_power 1 (by omega) (by omega)

theorem infinite : Ideal.ofBits FTy.f32 2139095040#32 = ⊤ := Scale.ofBits_top

theorem bottom32 : Ideal.ofBits FTy.f32 4286578688#32 = ⊥ := by
  show Ideal.ieee 8 23 4286578688#32 = ⊥
  unfold Ideal.ieee
  simp

theorem bottom16 : Ideal.ofBits FTy.bf16 65408#16 = ⊥ := by
  show Ideal.ieee 8 7 65408#16 = ⊥
  unfold Ideal.ieee
  simp

theorem infinite16 : Ideal.ofBits FTy.bf16 32640#16 = ⊤ := by
  show Ideal.ieee 8 7 32640#16 = ⊤
  unfold Ideal.ieee
  simp

/-- The largest finite number of bf16. -/
theorem largest16 : Ideal.ofBits FTy.bf16 32639#16 = ((255 * (2 : ℝ) ^ (120 : ℤ) : ℝ) : EReal) := by
  show Ideal.ieee 8 7 32639#16 = _
  unfold Ideal.ieee
  simp

theorem recip_eq : Scale.recip = ((9586981 * (2 : ℝ) ^ (-39 : ℤ) : ℝ) : EReal) := by
  show Ideal.ieee 8 23 932333861#32 = _
  unfold Ideal.ieee
  simp

/-! ## The scales -/

theorem pick2_eq (t : EReal) : pick2 t = Scale.rscale t := by
  unfold pick2 Scale.rscale
  rw [tiny, infinite]
  simp only [pow2_eq]

/-- A magnitude that bf16 holds. -/
def Ok (a : EReal) : Prop := a ≤ Ideal.ofBits FTy.bf16 32639#16 ∨ a = ⊤

theorem ok_small (a : EReal) (h : Ok a) : a * Scale.recip < (((2 : ℝ) ^ (126 : ℤ) : ℝ) : EReal) ∨ a * Scale.recip = ⊤ := by
  rcases h with h | h
  · left
    rw [largest16] at h
    rw [recip_eq]
    refine lt_of_le_of_lt (mul_le_mul_of_nonneg_right h (EReal.coe_nonneg.mpr (by positivity))) ?_
    rw [← EReal.coe_mul, EReal.coe_lt_coe_iff]
    norm_num
  · right
    rw [h, recip_eq]
    exact EReal.top_mul_coe_of_pos (by positivity)

theorem scale_eq (a : EReal) (h : Ok a) : pick2 (a * Ideal.ofBits FTy.f32 932333861#32) = Scale.kscale a := by
  rw [pick2_eq]
  exact (Scale.scale_eq a (ok_small a h)).1.symm

theorem inv_eq (a : EReal) (h : Ok a) : Ideal.div 1 (Scale.kscale a) = Scale.kinv a := by
  have e := Scale.scale_eq a (ok_small a h)
  rw [e.2, e.1]

/-- The largest of magnitudes that bf16 holds is one. -/
theorem ok_fold (f : Fin 128 → EReal) (h : ∀ x, Ok (f x)) : Ok (Finset.fold max (Ideal.ofBits FTy.bf16 65408#16) f Finset.univ) := by
  rw [bottom16]
  by_cases ht : ∃ x, f x = ⊤
  · obtain ⟨x, hx⟩ := ht
    right
    exact top_le_iff.mp ((Finset.le_fold_max _).mpr (Or.inr ⟨x, Finset.mem_univ x, hx.ge⟩))
  · left
    refine (Finset.fold_max_le _).mpr ⟨bot_le, fun x _ => ?_⟩
    exact (h x).resolve_right fun e => ht ⟨x, e⟩

/-! ## The precondition -/

theorem holds (u c e : EReal)
    (h : IntOp.ori (BitVec.ofBool (decide (u ≤ c))) (BitVec.ofBool (decide (u = e))) = 1#1) : u ≤ c ∨ u = e := by
  by_cases h1 : u ≤ c
  · exact Or.inl h1
  · by_cases h2 : u = e
    · exact Or.inr h2
    · rw [decide_eq_false h1, decide_eq_false h2] at h
      exact absurd h (by decide)

theorem ok_of_pre (x : Spec.Arr3 10 15360 2048) (s : Spec.Arr3 10 120 2048) (d : Spec.Arr3 10 15360 2304)
    (g : Shape.Idx (⟨2, ![2048, 2304]⟩ : Shape) → EReal)
    (h : Cert.Pre_bf16_numbers.fn (F := Ideal) x s d g = fun _ => 1#1) (a : Fin 10) (b : Fin 15360) (j : Fin 2304) :
    Ok (FloatOps.absf (F := Ideal) (φ := .bf16) (d (ix3 a b j))) := by
  have e := congrFun h (ix3 a b j)
  revert e
  pointwise [Cert.Pre_bf16_numbers.fn]
  generalize FloatOps.absf (F := Ideal) (φ := .bf16) (d (ix3 a b j)) = u
  intro e
  unfold Ok
  rw [← infinite16]
  exact holds u _ _ e

/-- Under the precondition every block's largest magnitude is one that bf16 holds. -/
theorem ok_amax (d : Spec.Arr3 10 15360 2304)
    (h : ∀ (a : Fin 10) (b : Fin 15360) (j : Fin 2304), Ok (FloatOps.absf (F := Ideal) (φ := .bf16) (d (ix3 a b j))))
    (b : Fin 1200) (j : Fin 2304) : Ok (Spec.amaxAt d b j) :=
  ok_fold _ fun _ => h _ _ _

end Cert.Equal

end
-- ==== Proof.ReferenceArrays.lean ====
/-
  THE REFERENCE'S THREE RESULTS as functions of its arguments.
-/
module

public import proofs.«01_k».proof.Proof.Equal

@[expose] public section

noncomputable section

namespace Cert.ReferenceIdeal.Arrays

open Idealize.ShloMosaic Cert.ReferenceIdeal Cert.ReferenceIdeal.Gen Cert.ReferenceIdeal.Body
open Idealize.ShloMosaic.TcCoe Idealize.SL.Sem

variable (m : (ℓ : Loc nD τ sig) → Buf (Elt Ideal) ℓ) (c : Dev nD)

/-- `x`. -/
abbrev X : Spec.Arr3 10 15360 2048 := m ((c : Thread nD τ).loc main_arg0)
/-- The scales of `x`. -/
abbrev S : Spec.Arr3 10 120 2048 := m ((c : Thread nD τ).loc main_arg1)
/-- `dy`. -/
abbrev D : Spec.Arr3 10 15360 2304 := m ((c : Thread nD τ).loc main_arg2)
/-- The gradient so far. -/
abbrev G : Shape.Idx (⟨2, ![2048, 2304]⟩ : Shape) → EReal := m ((c : Thread nD τ).loc main_arg3)

theorem v0_apply (b : Fin 1200) (x : Fin 128) (d : Fin 2048) : V m c main_v0 (ix3 b x d) = Spec.xs0 (X m c) (Spec.tok b x) d := by
  unfold Spec.xs0 Spec.tok
  entry_read
  pointwise
  show X m c _ = X m c _
  congr 2 <;> refine Fin.ext ?_
  · show b.val / 120 = (128 * b.val + x.val) / 15360
    omega
  · show b.val % 120 * 128 + x.val = (128 * b.val + x.val) % 15360
    omega

theorem v1_apply (b : Fin 1200) (d : Fin 2048) : V m c main_v1 (ix2 b d) = Spec.xs1 (S m c) b d := by
  unfold Spec.xs1
  entry_read
  pointwise

theorem v2_apply (b : Fin 1200) (x : Fin 128) (j : Fin 2304) : V m c main_v2 (ix3 b x j) = Spec.dys (D m c) (Spec.tok b x) j := by
  unfold Spec.dys Spec.tok
  entry_read
  pointwise
  show D m c _ = D m c _
  congr 2 <;> refine Fin.ext ?_
  · show b.val / 120 = (128 * b.val + x.val) / 15360
    omega
  · show b.val % 120 * 128 + x.val = (128 * b.val + x.val) % 15360
    omega

/-! ## The one point's blocks are the arrays -/

theorem idx : ∀ t : Fin cfg0.N, win0_0.index t = ![0, 0, 0] ∧ win0_1.index t = ![0, 0] ∧ win0_2.index t = ![0, 0, 0]
    ∧ win0_3.index t = ![0, 0] :=
  (by decide +kernel : ∀ t : Fin grid0.N, win0_0.index t = ![0, 0, 0] ∧ win0_1.index t = ![0, 0] ∧ win0_2.index t = ![0, 0, 0]
    ∧ win0_3.index t = ![0, 0])

/-- `x`, its scales, `dy` and the gradient so far, as the one point reads them. -/
def b0 (t : Fin cfg0.N) : Vec Ideal S1200x128x2048 .fp8e4m3 := iblk m c 0 t
def b1 (t : Fin cfg0.N) : Vec Ideal S1200x2048 .f32 := iblk m c 1 t
def b2 (t : Fin cfg0.N) : Vec Ideal S1200x128x2304 .bf16 := iblk m c 2 t
def b3 (t : Fin cfg0.N) : Vec Ideal S2048x2304 .f32 := iblk m c 3 t

theorem b0_apply (t : Fin cfg0.N) (b : Fin 1200) (x : Fin 128) (d : Fin 2048) :
    b0 m c t (ix3 b x d) = Spec.xs0 (X m c) (Spec.tok b x) d := by
  rw [← v0_apply]
  unfold b0
  blk_ext [iblk, idx t]

theorem b1_apply (t : Fin cfg0.N) (b : Fin 1200) (d : Fin 2048) : b1 m c t (ix2 b d) = Spec.xs1 (S m c) b d := by
  rw [← v1_apply]
  unfold b1
  blk_ext [iblk, idx t]

theorem b2_apply (t : Fin cfg0.N) (b : Fin 1200) (x : Fin 128) (j : Fin 2304) :
    b2 m c t (ix3 b x j) = Spec.dys (D m c) (Spec.tok b x) j := by
  rw [← v2_apply]
  unfold b2
  blk_ext [iblk, idx t]

theorem b3_apply (t : Fin cfg0.N) (d : Fin 2048) (j : Fin 2304) : b3 m c t (ix2 d j) = G m c (ix2 d j) := by
  have e : V m c main_arg3 (ix2 d j) = G m c (ix2 d j) := congrFun (V_main_arg3 m c) (ix2 d j)
  rw [← e]
  unfold b3
  blk_ext [iblk, idx t]

theorem tok_eq (k : Fin 153600) : Spec.tok (⟨k.val / 128, by omega⟩ : Fin 1200) (⟨k.val % 128, by omega⟩ : Fin 128) = k :=
  Fin.ext (show 128 * (k.val / 128) + k.val % 128 = k.val by omega)

theorem amax_eq (t : Fin cfg0.N) (b : Fin 1200) (j : Fin 2304) : amaxR (b2 m c t) b j = Spec.amaxAt (D m c) b j := by
  unfold amaxR Spec.amaxAt
  rw [Equal.bottom32, Equal.bottom16]
  congr 1
  funext x
  rw [b2_apply]

/-- Loading all of `dy` is `dy`. -/
theorem ld_dy (v : Vec Ideal S1200x128x2304 .bf16) : View.ld v r0_0 = v := by
  funext y
  obtain ⟨b, x, j, rfl⟩ : ∃ (b : Fin 1200) (x : Fin 128) (j : Fin 2304), y = ix3 b x j := ⟨y 0, y 1, y 2, eq_ix3 y⟩
  refine View.ld_unit_apply_of v _ _ _ _ _ fun a => ?_
  match a with
  | ⟨0, _⟩ => show b.val = 0 + b.val; omega
  | ⟨1, _⟩ => show x.val = 0 + x.val; omega
  | ⟨2, _⟩ => show j.val = 0 + j.val; omega

/-! ## The three results -/

variable (hd : ∀ (b : Fin 1200) (j : Fin 2304), Equal.Ok (Spec.amaxAt (D m c) b j))

include hd

theorem scale_eq (t : Fin cfg0.N) (b : Fin 1200) (j : Fin 2304) : k0_pay4 (b2 m c t) (ix2 b j) = Spec.scale (D m c) b j := by
  rw [scale_apply, amax_eq]
  exact Equal.scale_eq _ (hd b j)

theorem code_eq (t : Fin cfg0.N) (k : Fin 153600) (j : Fin 2304) :
    k0_pay5 (b2 m c t) (ix3 (⟨k.val / 128, by omega⟩ : Fin 1200) (⟨k.val % 128, by omega⟩ : Fin 128) j) = Spec.code (D m c) k j := by
  rw [code3_apply, scale_eq m c hd, b2_apply, tok_eq]
  unfold Spec.code Spec.scale
  rw [Equal.inv_eq _ (hd _ j)]
  rfl

/-- The scales. -/
theorem scales (b : Fin 1200) (j : Fin 2304) : (dats m 0 c).arrAt 6 cfg0.N (ix2 b j) = Spec.scale (D m c) b j := by
  have e : (dats m 0 c).arrAt 6 cfg0.N = fun i : S1200x2304.Idx => Spec.scale (D m c) (i 0) (i 1) := by
    refine (dats m 0 c).arrAt_eq_of_after_last 6 t0_0 (by decide +kernel) _ fun i => ?_
    blk_simp
    rw [after0_6]
    frame_out
    obtain ⟨b', j', rfl⟩ : ∃ (b' : Fin 1200) (j' : Fin 2304), i = ix2 b' j' := ⟨i 0, i 1, eq_ix2 i⟩
    unfold k0_pay8
    rw [ld_dy]
    exact scale_eq m c hd t0_0 b' j'
  rw [e]
  rfl

/-- The codes. -/
theorem codes (k : Fin 153600) (j : Fin 2304) : (dats m 0 c).arrAt 5 cfg0.N (ix2 k j) = Spec.code (D m c) k j := by
  have e : (dats m 0 c).arrAt 5 cfg0.N = fun i : S153600x2304.Idx => Spec.code (D m c) (i 0) (i 1) := by
    refine (dats m 0 c).arrAt_eq_of_after_last 5 t0_0 (by decide +kernel) _ fun i => ?_
    blk_simp
    rw [after0_5]
    frame_out
    obtain ⟨k', j', rfl⟩ : ∃ (k' : Fin 153600) (j' : Fin 2304), i = ix2 k' j' := ⟨i 0, i 1, eq_ix2 i⟩
    unfold k0_pay9
    rw [ld_dy]
    exact (flat (k0_pay5 (b2 m c t0_0)) k' j').trans (code_eq m c hd t0_0 k' j')
  rw [e]
  rfl

/-- The gradient. -/
theorem grad (d : Fin 2048) (j : Fin 2304) :
    (dats m 0 c).arrAt 4 cfg0.N (ix2 d j) = Spec.grad (X m c) (S m c) (D m c) (G m c) d j := by
  have e : (dats m 0 c).arrAt 4 cfg0.N = fun i : S2048x2304.Idx => Spec.grad (X m c) (S m c) (D m c) (G m c) (i 0) (i 1) := by
    refine (dats m 0 c).arrAt_eq_of_after_last 4 t0_0 (by decide +kernel) _ fun i => ?_
    blk_simp
    rw [after0_4]
    frame_out
    obtain ⟨d', j', rfl⟩ : ∃ (d' : Fin 2048) (j' : Fin 2304), i = ix2 d' j' := ⟨i 0, i 1, eq_ix2 i⟩
    unfold k0_pay8 k0_pay9
    rw [ld_dy]
    refine (grad_apply (k0_pay4 (b2 m c t0_0)) (k0_pay5 (b2 m c t0_0)) (b0 m c t0_0) (b1 m c t0_0) (b3 m c t0_0) d' j').trans ?_
    unfold Spec.grad
    refine congrArg₂ (fun e f : EReal => e + f) (b3_apply m c t0_0 d' j') (Finset.sum_congr rfl fun k _ => ?_)
    rw [b0_apply, b1_apply, code_eq m c hd, scale_eq m c hd, tok_eq]
    rfl
  rw [e]
  rfl

end Cert.ReferenceIdeal.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrameBits
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.Gen.ReferenceIdeal.Value
public import proofs.«01_k».proof.Proof.KernelArrays
public import proofs.«01_k».proof.Proof.ReferenceArrays
public import proofs.«01_k».proof.Proof.Gen.Pre_bf16_numbers
public import Idealize.ShloMosaic.Adequacy
public import Idealize.ShloMosaic.Init

@[expose] public section

noncomputable section

namespace Cert.Proof

open Idealize.ShloMosaic Idealize.SL.Sem

/-- The results of the kernel on device `c`, as functions of its arguments. -/
def dw (m : (ℓ : Loc Cert.KernelIdeal.nD Cert.KernelIdeal.τ Cert.KernelIdeal.sig) → Buf (Elt Ideal) ℓ) (c : Dev Cert.KernelIdeal.nD) :
    Shape.Idx (⟨2, ![2048, 2304]⟩ : Shape) → EReal := fun i =>
  Spec.grad (KernelIdeal.Arrays.X m c) (KernelIdeal.Arrays.S m c) (KernelIdeal.Arrays.D m c) (KernelIdeal.Arrays.G m c) (i 0) (i 1)
def codes (m : (ℓ : Loc Cert.KernelIdeal.nD Cert.KernelIdeal.τ Cert.KernelIdeal.sig) → Buf (Elt Ideal) ℓ) (c : Dev Cert.KernelIdeal.nD) :
    Shape.Idx (⟨2, ![153600, 2304]⟩ : Shape) → EReal := fun i => Spec.code (KernelIdeal.Arrays.D m c) (i 0) (i 1)
def scales (m : (ℓ : Loc Cert.KernelIdeal.nD Cert.KernelIdeal.τ Cert.KernelIdeal.sig) → Buf (Elt Ideal) ℓ) (c : Dev Cert.KernelIdeal.nD) :
    Shape.Idx (⟨2, ![1200, 2304]⟩ : Shape) → EReal := fun i => Spec.scale (KernelIdeal.Arrays.D m c) (i 0) (i 1)

/-- The kernel and the reference leave the same three results. -/
theorem algebraic : @algebraic_KernelIdeal_ReferenceIdeal_pre_bf16_numbers Cert.KernelIdeal.Gen.facts Cert.ReferenceIdeal.Gen.facts
    Cert.Pre_bf16_numbers.Gen.facts := by
  intro m g m' g' hpre hin
  refine ⟨dw m, codes m, scales m, ?_, ?_⟩
  · refine (θ_run _ _ _).mono (fun r h c => ?_) (Cert.KernelIdeal.Value.run_blocks (F := Ideal) m g)
    obtain ⟨h1, h2, k0, k1, k2, k3, h0⟩ := h c
    refine ⟨h0.trans (funext fun i => ?_), h1.trans (funext fun i => ?_), h2.trans (funext fun i => ?_), k0, k1, k2, k3⟩
    · obtain ⟨a, b, rfl⟩ : ∃ (a : Fin 2048) (b : Fin 2304), i = ix2 a b := ⟨i 0, i 1, eq_ix2 i⟩
      exact KernelIdeal.Arrays.grad m c _ _ KernelIdeal.Arrays.last a b
    · obtain ⟨a, b, rfl⟩ : ∃ (a : Fin 153600) (b : Fin 2304), i = ix2 a b := ⟨i 0, i 1, eq_ix2 i⟩
      exact KernelIdeal.Arrays.codes m c a b
    · obtain ⟨a, b, rfl⟩ : ∃ (a : Fin 1200) (b : Fin 2304), i = ix2 a b := ⟨i 0, i 1, eq_ix2 i⟩
      exact KernelIdeal.Arrays.scales m c a b
  · refine (θ_run _ _ _).mono (fun r h c => ?_) (Cert.ReferenceIdeal.Value.run_blocks (F := Ideal) m' g')
    obtain ⟨h0, h1, h2, k0, k1, k2, k3⟩ := h c
    obtain ⟨e0, e1, e2, e3⟩ := hin c
    have eX : ReferenceIdeal.Arrays.X m' c = KernelIdeal.Arrays.X m c := e0
    have eS : ReferenceIdeal.Arrays.S m' c = KernelIdeal.Arrays.S m c := e1
    have eD : ReferenceIdeal.Arrays.D m' c = KernelIdeal.Arrays.D m c := e2
    have eG : ReferenceIdeal.Arrays.G m' c = KernelIdeal.Arrays.G m c := e3
    have hd : ∀ (b : Fin 1200) (j : Fin 2304), Equal.Ok (Spec.amaxAt (ReferenceIdeal.Arrays.D m' c) b j) := by
      rw [eD]
      exact Equal.ok_amax _ fun a b j => Equal.ok_of_pre _ _ _ _ (hpre c) a b j
    refine ⟨h0.trans (funext fun i => ?_), h1.trans (funext fun i => ?_), h2.trans (funext fun i => ?_), k0, k1, k2, k3⟩
    · obtain ⟨a, b, rfl⟩ : ∃ (a : Fin 2048) (b : Fin 2304), i = ix2 a b := ⟨i 0, i 1, eq_ix2 i⟩
      refine (ReferenceIdeal.Arrays.grad m' c hd a b).trans ?_
      rw [eX, eS, eD, eG]
      rfl
    · obtain ⟨a, b, rfl⟩ : ∃ (a : Fin 153600) (b : Fin 2304), i = ix2 a b := ⟨i 0, i 1, eq_ix2 i⟩
      refine (ReferenceIdeal.Arrays.codes m' c hd a b).trans ?_
      rw [eD]
      rfl
    · obtain ⟨a, b, rfl⟩ : ∃ (a : Fin 1200) (b : Fin 2304), i = ix2 a b := ⟨i 0, i 1, eq_ix2 i⟩
      refine (ReferenceIdeal.Arrays.scales m' c hd a b).trans ?_
      rw [eD]
      rfl

theorem claim : Cert.Claim := ⟨Cert.Kernel.Gen.facts, Cert.KernelIdeal.Gen.facts, Cert.ReferenceIdeal.Gen.facts, Cert.Pre_bf16_numbers.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
